-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_uniform_batch [hPre_uniform_batch : Cert.Pre_uniform_batch.Facts] (m : (ℓ : Loc Cert.KernelIdeal.nD Cert.KernelIdeal.τ Cert.KernelIdeal.sig) → Buf (Elt Ideal) ℓ) : Prop :=
  ∀ c : Dev Cert.KernelIdeal.nD,
    (Cert.Pre_uniform_batch.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_uniform_batch [hPre_uniform_batch : Cert.Pre_uniform_batch.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_uniform_batch.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_uniform_batch [hKernelIdeal : Cert.KernelIdeal.Facts] [hPre_uniform_batch : Cert.Pre_uniform_batch.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_uniform_batch m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_uniform_batch [hReferenceIdeal : Cert.ReferenceIdeal.Facts] [hPre_uniform_batch : Cert.Pre_uniform_batch.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_uniform_batch m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_uniform_batch [hKernelIdeal : Cert.KernelIdeal.Facts] [hReferenceIdeal : Cert.ReferenceIdeal.Facts] [hPre_uniform_batch : Cert.Pre_uniform_batch.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_uniform_batch m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_uniform_batch : Cert.Pre_uniform_batch.Facts),
    quiescent_Kernel (hKernel := hKernel)
    ∧ quiescent_KernelIdeal (hKernelIdeal := hKernelIdeal)
    ∧ quiescent_KernelIdeal_pre_uniform_batch (hKernelIdeal := hKernelIdeal) (hPre_uniform_batch := hPre_uniform_batch)
    ∧ quiescent_ReferenceIdeal (hReferenceIdeal := hReferenceIdeal)
    ∧ quiescent_ReferenceIdeal_pre_uniform_batch (hReferenceIdeal := hReferenceIdeal) (hPre_uniform_batch := hPre_uniform_batch)
    ∧ preserves_Kernel_KernelIdeal
    ∧ algebraic_KernelIdeal_ReferenceIdeal_pre_uniform_batch (hKernelIdeal := hKernelIdeal) (hReferenceIdeal := hReferenceIdeal) (hPre_uniform_batch := hPre_uniform_batch)
-- ==== Pre_uniform_batch.lean ====
abbrev S32768x512 : Shape := ⟨2, ![32768, 512]⟩
abbrev S16 : Shape := ⟨1, ![16]⟩
abbrev S512 : Shape := ⟨1, ![512]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S32768x512 .f32) (main_arg1 : IVec S16 32) (main_arg2 : FVec F S512 .f32) (main_arg3 : FVec F S512 .f32) (main_arg4 : FVec F S512 .f32) : IVec S_ 1 :=
  let main_c : IVec S_ 32 := constantI S_ 32 2048#32
  let main_v0 : IVec S16 32 := broadcastInDim S16 ![] bcast_S_S16 main_c
  let main_v1 : IVec S16 1 := cmpi .eq main_arg1 main_v0
  let main_c_0 : IVec S_ 1 := constantI S_ 1 1#1
  let main_v2 : IVec S_ 1 := (fun x v => Host.reduce IntOp.andi x v reducesTo_S16_S_d0 h_S_) main_v1 main_c_0
  main_v2
-- ==== Kernel.lean ====
abbrev S32768x512 : Shape := ⟨2, ![32768, 512]⟩
abbrev S16 : Shape := ⟨1, ![16]⟩
abbrev S512 : Shape := ⟨1, ![512]⟩
abbrev S2048x16 : Shape := ⟨2, ![2048, 16]⟩
abbrev S_ : Shape := ⟨0, ![]⟩
abbrev S1x16 : Shape := ⟨2, ![1, 16]⟩

abbrev nBuf : Table → Nat
  | .hbm => 6
  | .local .scVector .vmem => 1
  | _ => 0

abbrev bufTy : (tb : Table) → Fin (nBuf tb) → BufTy
  | .hbm, ⟨0, _⟩ => ⟨S32768x512, .f32⟩
  | .hbm, ⟨1, _⟩ => ⟨S16, .i32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S32768x512, .f32⟩
  | .local .scVector .vmem, ⟨0, _⟩ => ⟨S2048x16, .f32⟩
  | _, _ => ⟨S32768x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 32 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | _ => false

abbrev sig : RefSig :=
  ofTables nBuf rfl bufTy 4 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_arg0_scv : Ref sig .scVector := ⟨.hbm, 0, rfl⟩
abbrev main_v0_scv : Ref sig .scVector := ⟨.hbm, 5, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_188_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  ![0, v2.toNat]
@[reducible] def k0_t1_loop : Scf.Loop 32 :=
  let c0_i32 : BitVec 32 := 0#32
  let c2048_i32 : BitVec 32 := 2048#32
  let v4 : BitVec 32 := Scalar.addi c0_i32 c2048_i32
  let c1_i32 : BitVec 32 := 1#32
  ⟨c0_i32, v4, c1_i32⟩
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let v131 : Index := Scalar.indexCast arg5
  let c0 : Index := 0#32
  ![v131.toNat, 0]
@[reducible] def k0_t2_loop : Scf.Loop 32 :=
  let c0_i32_4 : BitVec 32 := 0#32
  let c2048_i32_5 : BitVec 32 := 2048#32
  let v10 : BitVec 32 := Scalar.addi c0_i32_4 c2048_i32_5
  let c1_i32_6 : BitVec 32 := 1#32
  ⟨c0_i32_4, v10, c1_i32_6⟩
def k0_off3 (k0_t2 : Fin k0_t2_loop.trips) : Fin 2 → Nat :=
  let c0_i32_4 : BitVec 32 := 0#32
  let c1_i32_6 : BitVec 32 := 1#32
  let arg5 : BitVec 32 := Scf.iv c0_i32_4 c1_i32_6 k0_t2
  let v131 : Index := Scalar.indexCast arg5
  let c0 : Index := 0#32
  ![v131.toNat, 0]
def k0_off4 (i : grid0.Coords) : Fin 2 → Nat :=
  let c2048_i32_188_r2 : BitVec 32 := 2048#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  ![2048, v2.toNat]
@[reducible] def k0_t3_loop : Scf.Loop 32 :=
  let c0_i32_9 : BitVec 32 := 0#32
  let c2048_i32_10 : BitVec 32 := 2048#32
  let v12 : BitVec 32 := Scalar.addi c0_i32_9 c2048_i32_10
  let c1_i32_11 : BitVec 32 := 1#32
  ⟨c0_i32_9, v12, c1_i32_11⟩
def k0_off5 (k0_t3 : Fin k0_t3_loop.trips) : Fin 2 → Nat :=
  let c0_i32_9 : BitVec 32 := 0#32
  let c1_i32_11 : BitVec 32 := 1#32
  let arg5 : BitVec 32 := Scf.iv c0_i32_9 c1_i32_11 k0_t3
  let v131 : Index := Scalar.indexCast arg5
  let c0 : Index := 0#32
  ![v131.toNat, 0]
@[reducible] def k0_t4_loop : Scf.Loop 32 :=
  let c0_i32_16 : BitVec 32 := 0#32
  let c2048_i32_17 : BitVec 32 := 2048#32
  let v18 : BitVec 32 := Scalar.addi c0_i32_16 c2048_i32_17
  let c1_i32_18 : BitVec 32 := 1#32
  ⟨c0_i32_16, v18, c1_i32_18⟩
def k0_off6 (k0_t4 : Fin k0_t4_loop.trips) : Fin 2 → Nat :=
  let c0_i32_16 : BitVec 32 := 0#32
  let c1_i32_18 : BitVec 32 := 1#32
  let arg5 : BitVec 32 := Scf.iv c0_i32_16 c1_i32_18 k0_t4
  let v131 : Index := Scalar.indexCast arg5
  let c0 : Index := 0#32
  ![v131.toNat, 0]
def k0_off7 (i : grid0.Coords) : Fin 2 → Nat :=
  let c4096_i32_r4 : BitVec 32 := 4096#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  ![4096, v2.toNat]
@[reducible] def k0_t5_loop : Scf.Loop 32 :=
  let c0_i32_21 : BitVec 32 := 0#32
  let c2048_i32_22 : BitVec 32 := 2048#32
  let v20 : BitVec 32 := Scalar.addi c0_i32_21 c2048_i32_22
  let c1_i32_23 : BitVec 32 := 1#32
  ⟨c0_i32_21, v20, c1_i32_23⟩
def k0_off8 (k0_t5 : Fin k0_t5_loop.trips) : Fin 2 → Nat :=
  let c0_i32_21 : BitVec 32 := 0#32
  let c1_i32_23 : BitVec 32 := 1#32
  let arg5 : BitVec 32 := Scf.iv c0_i32_21 c1_i32_23 k0_t5
  let v131 : Index := Scalar.indexCast arg5
  let c0 : Index := 0#32
  ![v131.toNat, 0]
@[reducible] def k0_t6_loop : Scf.Loop 32 :=
  let c0_i32_28 : BitVec 32 := 0#32
  let c2048_i32_29 : BitVec 32 := 2048#32
  let v26 : BitVec 32 := Scalar.addi c0_i32_28 c2048_i32_29
  let c1_i32_30 : BitVec 32 := 1#32
  ⟨c0_i32_28, v26, c1_i32_30⟩
def k0_off9 (k0_t6 : Fin k0_t6_loop.trips) : Fin 2 → Nat :=
  let c0_i32_28 : BitVec 32 := 0#32
  let c1_i32_30 : BitVec 32 := 1#32
  let arg5 : BitVec 32 := Scf.iv c0_i32_28 c1_i32_30 k0_t6
  let v131 : Index := Scalar.indexCast arg5
  let c0 : Index := 0#32
  ![v131.toNat, 0]
def k0_off10 (i : grid0.Coords) : Fin 2 → Nat :=
  let c6144_i32_r6 : BitVec 32 := 6144#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  ![6144, v2.toNat]
@[reducible] def k0_t7_loop : Scf.Loop 32 :=
  let c0_i32_33 : BitVec 32 := 0#32
  let c2048_i32_34 : BitVec 32 := 2048#32
  let v28 : BitVec 32 := Scalar.addi c0_i32_33 c2048_i32_34
  let c1_i32_35 : BitVec 32 := 1#32
  ⟨c0_i32_33, v28, c1_i32_35⟩
def k0_off11 (k0_t7 : Fin k0_t7_loop.trips) : Fin 2 → Nat :=
  let c0_i32_33 : BitVec 32 := 0#32
  let c1_i32_35 : BitVec 32 := 1#32
  let arg5 : BitVec 32 := Scf.iv c0_i32_33 c1_i32_35 k0_t7
  let v131 : Index := Scalar.indexCast arg5
  let c0 : Index := 0#32
  ![v131.toNat, 0]
@[reducible] def k0_t8_loop : Scf.Loop 32 :=
  let c0_i32_40 : BitVec 32 := 0#32
  let c2048_i32_41 : BitVec 32 := 2048#32
  let v34 : BitVec 32 := Scalar.addi c0_i32_40 c2048_i32_41
  let c1_i32_42 : BitVec 32 := 1#32
  ⟨c0_i32_40, v34, c1_i32_42⟩
def k0_off12 (k0_t8 : Fin k0_t8_loop.trips) : Fin 2 → Nat :=
  let c0_i32_40 : BitVec 32 := 0#32
  let c1_i32_42 : BitVec 32 := 1#32
  let arg5 : BitVec 32 := Scf.iv c0_i32_40 c1_i32_42 k0_t8
  let v131 : Index := Scalar.indexCast arg5
  let c0 : Index := 0#32
  ![v131.toNat, 0]
def k0_off13 (i : grid0.Coords) : Fin 2 → Nat :=
  let c8192_i32_r8 : BitVec 32 := 8192#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  ![8192, v2.toNat]
@[reducible] def k0_t9_loop : Scf.Loop 32 :=
  let c0_i32_45 : BitVec 32 := 0#32
  let c2048_i32_46 : BitVec 32 := 2048#32
  let v36 : BitVec 32 := Scalar.addi c0_i32_45 c2048_i32_46
  let c1_i32_47 : BitVec 32 := 1#32
  ⟨c0_i32_45, v36, c1_i32_47⟩
def k0_off14 (k0_t9 : Fin k0_t9_loop.trips) : Fin 2 → Nat :=
  let c0_i32_45 : BitVec 32 := 0#32
  let c1_i32_47 : BitVec 32 := 1#32
  let arg5 : BitVec 32 := Scf.iv c0_i32_45 c1_i32_47 k0_t9
  let v131 : Index := Scalar.indexCast arg5
  let c0 : Index := 0#32
  ![v131.toNat, 0]
@[reducible] def k0_t10_loop : Scf.Loop 32 :=
  let c0_i32_52 : BitVec 32 := 0#32
  let c2048_i32_53 : BitVec 32 := 2048#32
  let v42 : BitVec 32 := Scalar.addi c0_i32_52 c2048_i32_53
  let c1_i32_54 : BitVec 32 := 1#32
  ⟨c0_i32_52, v42, c1_i32_54⟩
def k0_off15 (k0_t10 : Fin k0_t10_loop.trips) : Fin 2 → Nat :=
  let c0_i32_52 : BitVec 32 := 0#32
  let c1_i32_54 : BitVec 32 := 1#32
  let arg5 : BitVec 32 := Scf.iv c0_i32_52 c1_i32_54 k0_t10
  let v131 : Index := Scalar.indexCast arg5
  let c0 : Index := 0#32
  ![v131.toNat, 0]
def k0_off16 (i : grid0.Coords) : Fin 2 → Nat :=
  let c10240_i32_r10 : BitVec 32 := 10240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  ![10240, v2.toNat]
@[reducible] def k0_t11_loop : Scf.Loop 32 :=
  let c0_i32_57 : BitVec 32 := 0#32
  let c2048_i32_58 : BitVec 32 := 2048#32
  let v44 : BitVec 32 := Scalar.addi c0_i32_57 c2048_i32_58
  let c1_i32_59 : BitVec 32 := 1#32
  ⟨c0_i32_57, v44, c1_i32_59⟩
def k0_off17 (k0_t11 : Fin k0_t11_loop.trips) : Fin 2 → Nat :=
  let c0_i32_57 : BitVec 32 := 0#32
  let c1_i32_59 : BitVec 32 := 1#32
  let arg5 : BitVec 32 := Scf.iv c0_i32_57 c1_i32_59 k0_t11
  let v131 : Index := Scalar.indexCast arg5
  let c0 : Index := 0#32
  ![v131.toNat, 0]
@[reducible] def k0_t12_loop : Scf.Loop 32 :=
  let c0_i32_64 : BitVec 32 := 0#32
  let c2048_i32_65 : BitVec 32 := 2048#32
  let v50 : BitVec 32 := Scalar.addi c0_i32_64 c2048_i32_65
  let c1_i32_66 : BitVec 32 := 1#32
  ⟨c0_i32_64, v50, c1_i32_66⟩
def k0_off18 (k0_t12 : Fin k0_t12_loop.trips) : Fin 2 → Nat :=
  let c0_i32_64 : BitVec 32 := 0#32
  let c1_i32_66 : BitVec 32 := 1#32
  let arg5 : BitVec 32 := Scf.iv c0_i32_64 c1_i32_66 k0_t12
  let v131 : Index := Scalar.indexCast arg5
  let c0 : Index := 0#32
  ![v131.toNat, 0]
def k0_off19 (i : grid0.Coords) : Fin 2 → Nat :=
  let c12288_i32_r12 : BitVec 32 := 12288#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  ![12288, v2.toNat]
@[reducible] def k0_t13_loop : Scf.Loop 32 :=
  let c0_i32_69 : BitVec 32 := 0#32
  let c2048_i32_70 : BitVec 32 := 2048#32
  let v52 : BitVec 32 := Scalar.addi c0_i32_69 c2048_i32_70
  let c1_i32_71 : BitVec 32 := 1#32
  ⟨c0_i32_69, v52, c1_i32_71⟩
def k0_off20 (k0_t13 : Fin k0_t13_loop.trips) : Fin 2 → Nat :=
  let c0_i32_69 : BitVec 32 := 0#32
  let c1_i32_71 : BitVec 32 := 1#32
  let arg5 : BitVec 32 := Scf.iv c0_i32_69 c1_i32_71 k0_t13
  let v131 : Index := Scalar.indexCast arg5
  let c0 : Index := 0#32
  ![v131.toNat, 0]
@[reducible] def k0_t14_loop : Scf.Loop 32 :=
  let c0_i32_76 : BitVec 32 := 0#32
  let c2048_i32_77 : BitVec 32 := 2048#32
  let v58 : BitVec 32 := Scalar.addi c0_i32_76 c2048_i32_77
  let c1_i32_78 : BitVec 32 := 1#32
  ⟨c0_i32_76, v58, c1_i32_78⟩
def k0_off21 (k0_t14 : Fin k0_t14_loop.trips) : Fin 2 → Nat :=
  let c0_i32_76 : BitVec 32 := 0#32
  let c1_i32_78 : BitVec 32 := 1#32
  let arg5 : BitVec 32 := Scf.iv c0_i32_76 c1_i32_78 k0_t14
  let v131 : Index := Scalar.indexCast arg5
  let c0 : Index := 0#32
  ![v131.toNat, 0]
def k0_off22 (i : grid0.Coords) : Fin 2 → Nat :=
  let c14336_i32_r14 : BitVec 32 := 14336#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  ![14336, v2.toNat]
@[reducible] def k0_t15_loop : Scf.Loop 32 :=
  let c0_i32_81 : BitVec 32 := 0#32
  let c2048_i32_82 : BitVec 32 := 2048#32
  let v60 : BitVec 32 := Scalar.addi c0_i32_81 c2048_i32_82
  let c1_i32_83 : BitVec 32 := 1#32
  ⟨c0_i32_81, v60, c1_i32_83⟩
def k0_off23 (k0_t15 : Fin k0_t15_loop.trips) : Fin 2 → Nat :=
  let c0_i32_81 : BitVec 32 := 0#32
  let c1_i32_83 : BitVec 32 := 1#32
  let arg5 : BitVec 32 := Scf.iv c0_i32_81 c1_i32_83 k0_t15
  let v131 : Index := Scalar.indexCast arg5
  let c0 : Index := 0#32
  ![v131.toNat, 0]
@[reducible] def k0_t16_loop : Scf.Loop 32 :=
  let c0_i32_88 : BitVec 32 := 0#32
  let c2048_i32_89 : BitVec 32 := 2048#32
  let v66 : BitVec 32 := Scalar.addi c0_i32_88 c2048_i32_89
  let c1_i32_90 : BitVec 32 := 1#32
  ⟨c0_i32_88, v66, c1_i32_90⟩
def k0_off24 (k0_t16 : Fin k0_t16_loop.trips) : Fin 2 → Nat :=
  let c0_i32_88 : BitVec 32 := 0#32
  let c1_i32_90 : BitVec 32 := 1#32
  let arg5 : BitVec 32 := Scf.iv c0_i32_88 c1_i32_90 k0_t16
  let v131 : Index := Scalar.indexCast arg5
  let c0 : Index := 0#32
  ![v131.toNat, 0]
def k0_off25 (i : grid0.Coords) : Fin 2 → Nat :=
  let c16384_i32_r16 : BitVec 32 := 16384#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  ![16384, v2.toNat]
@[reducible] def k0_t17_loop : Scf.Loop 32 :=
  let c0_i32_93 : BitVec 32 := 0#32
  let c2048_i32_94 : BitVec 32 := 2048#32
  let v68 : BitVec 32 := Scalar.addi c0_i32_93 c2048_i32_94
  let c1_i32_95 : BitVec 32 := 1#32
  ⟨c0_i32_93, v68, c1_i32_95⟩
def k0_off26 (k0_t17 : Fin k0_t17_loop.trips) : Fin 2 → Nat :=
  let c0_i32_93 : BitVec 32 := 0#32
  let c1_i32_95 : BitVec 32 := 1#32
  let arg5 : BitVec 32 := Scf.iv c0_i32_93 c1_i32_95 k0_t17
  let v131 : Index := Scalar.indexCast arg5
  let c0 : Index := 0#32
  ![v131.toNat, 0]
@[reducible] def k0_t18_loop : Scf.Loop 32 :=
  let c0_i32_100 : BitVec 32 := 0#32
  let c2048_i32_101 : BitVec 32 := 2048#32
  let v74 : BitVec 32 := Scalar.addi c0_i32_100 c2048_i32_101
  let c1_i32_102 : BitVec 32 := 1#32
  ⟨c0_i32_100, v74, c1_i32_102⟩
def k0_off27 (k0_t18 : Fin k0_t18_loop.trips) : Fin 2 → Nat :=
  let c0_i32_100 : BitVec 32 := 0#32
  let c1_i32_102 : BitVec 32 := 1#32
  let arg5 : BitVec 32 := Scf.iv c0_i32_100 c1_i32_102 k0_t18
  let v131 : Index := Scalar.indexCast arg5
  let c0 : Index := 0#32
  ![v131.toNat, 0]
def k0_off28 (i : grid0.Coords) : Fin 2 → Nat :=
  let c18432_i32_r18 : BitVec 32 := 18432#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  ![18432, v2.toNat]
@[reducible] def k0_t19_loop : Scf.Loop 32 :=
  let c0_i32_105 : BitVec 32 := 0#32
  let c2048_i32_106 : BitVec 32 := 2048#32
  let v76 : BitVec 32 := Scalar.addi c0_i32_105 c2048_i32_106
  let c1_i32_107 : BitVec 32 := 1#32
  ⟨c0_i32_105, v76, c1_i32_107⟩
def k0_off29 (k0_t19 : Fin k0_t19_loop.trips) : Fin 2 → Nat :=
  let c0_i32_105 : BitVec 32 := 0#32
  let c1_i32_107 : BitVec 32 := 1#32
  let arg5 : BitVec 32 := Scf.iv c0_i32_105 c1_i32_107 k0_t19
  let v131 : Index := Scalar.indexCast arg5
  let c0 : Index := 0#32
  ![v131.toNat, 0]
@[reducible] def k0_t20_loop : Scf.Loop 32 :=
  let c0_i32_112 : BitVec 32 := 0#32
  let c2048_i32_113 : BitVec 32 := 2048#32
  let v82 : BitVec 32 := Scalar.addi c0_i32_112 c2048_i32_113
  let c1_i32_114 : BitVec 32 := 1#32
  ⟨c0_i32_112, v82, c1_i32_114⟩
def k0_off30 (k0_t20 : Fin k0_t20_loop.trips) : Fin 2 → Nat :=
  let c0_i32_112 : BitVec 32 := 0#32
  let c1_i32_114 : BitVec 32 := 1#32
  let arg5 : BitVec 32 := Scf.iv c0_i32_112 c1_i32_114 k0_t20
  let v131 : Index := Scalar.indexCast arg5
  let c0 : Index := 0#32
  ![v131.toNat, 0]
def k0_off31 (i : grid0.Coords) : Fin 2 → Nat :=
  let c20480_i32_r20 : BitVec 32 := 20480#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  ![20480, v2.toNat]
@[reducible] def k0_t21_loop : Scf.Loop 32 :=
  let c0_i32_117 : BitVec 32 := 0#32
  let c2048_i32_118 : BitVec 32 := 2048#32
  let v84 : BitVec 32 := Scalar.addi c0_i32_117 c2048_i32_118
  let c1_i32_119 : BitVec 32 := 1#32
  ⟨c0_i32_117, v84, c1_i32_119⟩
def k0_off32 (k0_t21 : Fin k0_t21_loop.trips) : Fin 2 → Nat :=
  let c0_i32_117 : BitVec 32 := 0#32
  let c1_i32_119 : BitVec 32 := 1#32
  let arg5 : BitVec 32 := Scf.iv c0_i32_117 c1_i32_119 k0_t21
  let v131 : Index := Scalar.indexCast arg5
  let c0 : Index := 0#32
  ![v131.toNat, 0]
@[reducible] def k0_t22_loop : Scf.Loop 32 :=
  let c0_i32_124 : BitVec 32 := 0#32
  let c2048_i32_125 : BitVec 32 := 2048#32
  let v90 : BitVec 32 := Scalar.addi c0_i32_124 c2048_i32_125
  let c1_i32_126 : BitVec 32 := 1#32
  ⟨c0_i32_124, v90, c1_i32_126⟩
def k0_off33 (k0_t22 : Fin k0_t22_loop.trips) : Fin 2 → Nat :=
  let c0_i32_124 : BitVec 32 := 0#32
  let c1_i32_126 : BitVec 32 := 1#32
  let arg5 : BitVec 32 := Scf.iv c0_i32_124 c1_i32_126 k0_t22
  let v131 : Index := Scalar.indexCast arg5
  let c0 : Index := 0#32
  ![v131.toNat, 0]
def k0_off34 (i : grid0.Coords) : Fin 2 → Nat :=
  let c22528_i32_r22 : BitVec 32 := 22528#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  ![22528, v2.toNat]
@[reducible] def k0_t23_loop : Scf.Loop 32 :=
  let c0_i32_129 : BitVec 32 := 0#32
  let c2048_i32_130 : BitVec 32 := 2048#32
  let v92 : BitVec 32 := Scalar.addi c0_i32_129 c2048_i32_130
  let c1_i32_131 : BitVec 32 := 1#32
  ⟨c0_i32_129, v92, c1_i32_131⟩
def k0_off35 (k0_t23 : Fin k0_t23_loop.trips) : Fin 2 → Nat :=
  let c0_i32_129 : BitVec 32 := 0#32
  let c1_i32_131 : BitVec 32 := 1#32
  let arg5 : BitVec 32 := Scf.iv c0_i32_129 c1_i32_131 k0_t23
  let v131 : Index := Scalar.indexCast arg5
  let c0 : Index := 0#32
  ![v131.toNat, 0]
@[reducible] def k0_t24_loop : Scf.Loop 32 :=
  let c0_i32_136 : BitVec 32 := 0#32
  let c2048_i32_137 : BitVec 32 := 2048#32
  let v98 : BitVec 32 := Scalar.addi c0_i32_136 c2048_i32_137
  let c1_i32_138 : BitVec 32 := 1#32
  ⟨c0_i32_136, v98, c1_i32_138⟩
def k0_off36 (k0_t24 : Fin k0_t24_loop.trips) : Fin 2 → Nat :=
  let c0_i32_136 : BitVec 32 := 0#32
  let c1_i32_138 : BitVec 32 := 1#32
  let arg5 : BitVec 32 := Scf.iv c0_i32_136 c1_i32_138 k0_t24
  let v131 : Index := Scalar.indexCast arg5
  let c0 : Index := 0#32
  ![v131.toNat, 0]
def k0_off37 (i : grid0.Coords) : Fin 2 → Nat :=
  let c24576_i32_r24 : BitVec 32 := 24576#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  ![24576, v2.toNat]
@[reducible] def k0_t25_loop : Scf.Loop 32 :=
  let c0_i32_141 : BitVec 32 := 0#32
  let c2048_i32_142 : BitVec 32 := 2048#32
  let v100 : BitVec 32 := Scalar.addi c0_i32_141 c2048_i32_142
  let c1_i32_143 : BitVec 32 := 1#32
  ⟨c0_i32_141, v100, c1_i32_143⟩
def k0_off38 (k0_t25 : Fin k0_t25_loop.trips) : Fin 2 → Nat :=
  let c0_i32_141 : BitVec 32 := 0#32
  let c1_i32_143 : BitVec 32 := 1#32
  let arg5 : BitVec 32 := Scf.iv c0_i32_141 c1_i32_143 k0_t25
  let v131 : Index := Scalar.indexCast arg5
  let c0 : Index := 0#32
  ![v131.toNat, 0]
@[reducible] def k0_t26_loop : Scf.Loop 32 :=
  let c0_i32_148 : BitVec 32 := 0#32
  let c2048_i32_149 : BitVec 32 := 2048#32
  let v106 : BitVec 32 := Scalar.addi c0_i32_148 c2048_i32_149
  let c1_i32_150 : BitVec 32 := 1#32
  ⟨c0_i32_148, v106, c1_i32_150⟩
def k0_off39 (k0_t26 : Fin k0_t26_loop.trips) : Fin 2 → Nat :=
  let c0_i32_148 : BitVec 32 := 0#32
  let c1_i32_150 : BitVec 32 := 1#32
  let arg5 : BitVec 32 := Scf.iv c0_i32_148 c1_i32_150 k0_t26
  let v131 : Index := Scalar.indexCast arg5
  let c0 : Index := 0#32
  ![v131.toNat, 0]
def k0_off40 (i : grid0.Coords) : Fin 2 → Nat :=
  let c26624_i32_r26 : BitVec 32 := 26624#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  ![26624, v2.toNat]
@[reducible] def k0_t27_loop : Scf.Loop 32 :=
  let c0_i32_153 : BitVec 32 := 0#32
  let c2048_i32_154 : BitVec 32 := 2048#32
  let v108 : BitVec 32 := Scalar.addi c0_i32_153 c2048_i32_154
  let c1_i32_155 : BitVec 32 := 1#32
  ⟨c0_i32_153, v108, c1_i32_155⟩
def k0_off41 (k0_t27 : Fin k0_t27_loop.trips) : Fin 2 → Nat :=
  let c0_i32_153 : BitVec 32 := 0#32
  let c1_i32_155 : BitVec 32 := 1#32
  let arg5 : BitVec 32 := Scf.iv c0_i32_153 c1_i32_155 k0_t27
  let v131 : Index := Scalar.indexCast arg5
  let c0 : Index := 0#32
  ![v131.toNat, 0]
@[reducible] def k0_t28_loop : Scf.Loop 32 :=
  let c0_i32_160 : BitVec 32 := 0#32
  let c2048_i32_161 : BitVec 32 := 2048#32
  let v114 : BitVec 32 := Scalar.addi c0_i32_160 c2048_i32_161
  let c1_i32_162 : BitVec 32 := 1#32
  ⟨c0_i32_160, v114, c1_i32_162⟩
def k0_off42 (k0_t28 : Fin k0_t28_loop.trips) : Fin 2 → Nat :=
  let c0_i32_160 : BitVec 32 := 0#32
  let c1_i32_162 : BitVec 32 := 1#32
  let arg5 : BitVec 32 := Scf.iv c0_i32_160 c1_i32_162 k0_t28
  let v131 : Index := Scalar.indexCast arg5
  let c0 : Index := 0#32
  ![v131.toNat, 0]
def k0_off43 (i : grid0.Coords) : Fin 2 → Nat :=
  let c28672_i32_r28 : BitVec 32 := 28672#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  ![28672, v2.toNat]
@[reducible] def k0_t29_loop : Scf.Loop 32 :=
  let c0_i32_165 : BitVec 32 := 0#32
  let c2048_i32_166 : BitVec 32 := 2048#32
  let v116 : BitVec 32 := Scalar.addi c0_i32_165 c2048_i32_166
  let c1_i32_167 : BitVec 32 := 1#32
  ⟨c0_i32_165, v116, c1_i32_167⟩
def k0_off44 (k0_t29 : Fin k0_t29_loop.trips) : Fin 2 → Nat :=
  let c0_i32_165 : BitVec 32 := 0#32
  let c1_i32_167 : BitVec 32 := 1#32
  let arg5 : BitVec 32 := Scf.iv c0_i32_165 c1_i32_167 k0_t29
  let v131 : Index := Scalar.indexCast arg5
  let c0 : Index := 0#32
  ![v131.toNat, 0]
@[reducible] def k0_t30_loop : Scf.Loop 32 :=
  let c0_i32_172 : BitVec 32 := 0#32
  let c2048_i32_173 : BitVec 32 := 2048#32
  let v122 : BitVec 32 := Scalar.addi c0_i32_172 c2048_i32_173
  let c1_i32_174 : BitVec 32 := 1#32
  ⟨c0_i32_172, v122, c1_i32_174⟩
def k0_off45 (k0_t30 : Fin k0_t30_loop.trips) : Fin 2 → Nat :=
  let c0_i32_172 : BitVec 32 := 0#32
  let c1_i32_174 : BitVec 32 := 1#32
  let arg5 : BitVec 32 := Scf.iv c0_i32_172 c1_i32_174 k0_t30
  let v131 : Index := Scalar.indexCast arg5
  let c0 : Index := 0#32
  ![v131.toNat, 0]
def k0_off46 (i : grid0.Coords) : Fin 2 → Nat :=
  let c30720_i32_r30 : BitVec 32 := 30720#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  ![30720, v2.toNat]
@[reducible] def k0_t31_loop : Scf.Loop 32 :=
  let c0_i32_177 : BitVec 32 := 0#32
  let c2048_i32_178 : BitVec 32 := 2048#32
  let v124 : BitVec 32 := Scalar.addi c0_i32_177 c2048_i32_178
  let c1_i32_179 : BitVec 32 := 1#32
  ⟨c0_i32_177, v124, c1_i32_179⟩
def k0_off47 (k0_t31 : Fin k0_t31_loop.trips) : Fin 2 → Nat :=
  let c0_i32_177 : BitVec 32 := 0#32
  let c1_i32_179 : BitVec 32 := 1#32
  let arg5 : BitVec 32 := Scf.iv c0_i32_177 c1_i32_179 k0_t31
  let v131 : Index := Scalar.indexCast arg5
  let c0 : Index := 0#32
  ![v131.toNat, 0]
@[reducible] def k0_t32_loop : Scf.Loop 32 :=
  let c0_i32_184 : BitVec 32 := 0#32
  let c2048_i32_185 : BitVec 32 := 2048#32
  let v130 : BitVec 32 := Scalar.addi c0_i32_184 c2048_i32_185
  let c1_i32_186 : BitVec 32 := 1#32
  ⟨c0_i32_184, v130, c1_i32_186⟩
def k0_off48 (k0_t32 : Fin k0_t32_loop.trips) : Fin 2 → Nat :=
  let c0_i32_184 : BitVec 32 := 0#32
  let c1_i32_186 : BitVec 32 := 1#32
  let arg5 : BitVec 32 := Scf.iv c0_i32_184 c1_i32_186 k0_t32
  let v131 : Index := Scalar.indexCast arg5
  let c0 : Index := 0#32
  ![v131.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32768x512 : Shape := ⟨2, ![32768, 512]⟩
abbrev S16 : Shape := ⟨1, ![16]⟩
abbrev S512 : Shape := ⟨1, ![512]⟩
abbrev S1 : Shape := ⟨1, ![1]⟩
abbrev S15 : Shape := ⟨1, ![15]⟩
abbrev S_ : Shape := ⟨0, ![]⟩
abbrev S32768 : Shape := ⟨1, ![32768]⟩
abbrev S16x1 : Shape := ⟨2, ![16, 1]⟩
abbrev S32768x1 : Shape := ⟨2, ![32768, 1]⟩
abbrev S1x1 : Shape := ⟨2, ![1, 1]⟩
abbrev S1x32768 : Shape := ⟨2, ![1, 32768]⟩
abbrev S16x32768 : Shape := ⟨2, ![16, 32768]⟩
abbrev S16x32768x1 : Shape := ⟨3, ![16, 32768, 1]⟩
abbrev S1x32768x512 : Shape := ⟨3, ![1, 32768, 512]⟩
abbrev S16x32768x512 : Shape := ⟨3, ![16, 32768, 512]⟩
abbrev S16x512 : Shape := ⟨2, ![16, 512]⟩

abbrev nBuf : Space → Nat
  | .hbm => 104
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S16, .i32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S16, .i32⟩
  | .hbm, ⟨6, _⟩ => ⟨S1, .i32⟩
  | .hbm, ⟨7, _⟩ => ⟨S15, .i32⟩
  | .hbm, ⟨8, _⟩ => ⟨S16, .i32⟩
  | .hbm, ⟨9, _⟩ => ⟨S_, .i32⟩
  | .hbm, ⟨10, _⟩ => ⟨S1, .i32⟩
  | .hbm, ⟨11, _⟩ => ⟨S_, .i32⟩
  | .hbm, ⟨12, _⟩ => ⟨S16, .i32⟩
  | .hbm, ⟨13, _⟩ => ⟨S_, .i32⟩
  | .hbm, ⟨14, _⟩ => ⟨S_, .i32⟩
  | .hbm, ⟨15, _⟩ => ⟨S16, .i32⟩
  | .hbm, ⟨16, _⟩ => ⟨S_, .i32⟩
  | .hbm, ⟨17, _⟩ => ⟨S32768, .i32⟩
  | .hbm, ⟨18, _⟩ => ⟨S_, .i32⟩
  | .hbm, ⟨19, _⟩ => ⟨S16, .i32⟩
  | .hbm, ⟨20, _⟩ => ⟨S16, .i1⟩
  | .hbm, ⟨21, _⟩ => ⟨S_, .i32⟩
  | .hbm, ⟨22, _⟩ => ⟨S16, .i32⟩
  | .hbm, ⟨23, _⟩ => ⟨S16, .i32⟩
  | .hbm, ⟨24, _⟩ => ⟨S16, .i32⟩
  | .hbm, ⟨25, _⟩ => ⟨S16x1, .i32⟩
  | .hbm, ⟨26, _⟩ => ⟨S_, .i32⟩
  | .hbm, ⟨27, _⟩ => ⟨S16, .i32⟩
  | .hbm, ⟨28, _⟩ => ⟨S32768, .i32⟩
  | .hbm, ⟨29, _⟩ => ⟨S_, .i32⟩
  | .hbm, ⟨30, _⟩ => ⟨S_, .i32⟩
  | .hbm, ⟨31, _⟩ => ⟨S32768, .i32⟩
  | .hbm, ⟨32, _⟩ => ⟨S_, .i32⟩
  | .hbm, ⟨33, _⟩ => ⟨S32768, .i32⟩
  | .hbm, ⟨34, _⟩ => ⟨S32768, .i32⟩
  | .hbm, ⟨35, _⟩ => ⟨S_, .i32⟩
  | .hbm, ⟨36, _⟩ => ⟨S32768, .i32⟩
  | .hbm, ⟨37, _⟩ => ⟨S32768, .i1⟩
  | .hbm, ⟨38, _⟩ => ⟨S_, .i32⟩
  | .hbm, ⟨39, _⟩ => ⟨S32768, .i32⟩
  | .hbm, ⟨40, _⟩ => ⟨S32768, .i32⟩
  | .hbm, ⟨41, _⟩ => ⟨S32768, .i32⟩
  | .hbm, ⟨42, _⟩ => ⟨S32768x1, .i32⟩
  | .hbm, ⟨43, _⟩ => ⟨S1, .i32⟩
  | .hbm, ⟨44, _⟩ => ⟨S_, .i32⟩
  | .hbm, ⟨45, _⟩ => ⟨S32768x1, .i32⟩
  | .hbm, ⟨46, _⟩ => ⟨S32768x1, .i1⟩
  | .hbm, ⟨47, _⟩ => ⟨S1x1, .i32⟩
  | .hbm, ⟨48, _⟩ => ⟨S32768x1, .i32⟩
  | .hbm, ⟨49, _⟩ => ⟨S32768x1, .i1⟩
  | .hbm, ⟨50, _⟩ => ⟨S32768x1, .i1⟩
  | .hbm, ⟨51, _⟩ => ⟨S_, .i1⟩
  | .hbm, ⟨52, _⟩ => ⟨S32768, .i1⟩
  | .hbm, ⟨53, _⟩ => ⟨S32768, .i32⟩
  | .hbm, ⟨54, _⟩ => ⟨S_, .i32⟩
  | .hbm, ⟨55, _⟩ => ⟨S32768, .i32⟩
  | .hbm, ⟨56, _⟩ => ⟨S32768, .i32⟩
  | .hbm, ⟨57, _⟩ => ⟨S32768x512, .f32⟩
  | .hbm, ⟨58, _⟩ => ⟨S1x32768, .i32⟩
  | .hbm, ⟨59, _⟩ => ⟨S16, .i32⟩
  | .hbm, ⟨60, _⟩ => ⟨S16x1, .i32⟩
  | .hbm, ⟨61, _⟩ => ⟨S16x32768, .i32⟩
  | .hbm, ⟨62, _⟩ => ⟨S16x32768, .i32⟩
  | .hbm, ⟨63, _⟩ => ⟨S16x32768, .i1⟩
  | .hbm, ⟨64, _⟩ => ⟨S16x32768x1, .i1⟩
  | .hbm, ⟨65, _⟩ => ⟨S1x32768x512, .f32⟩
  | .hbm, ⟨66, _⟩ => ⟨S_, .f32⟩
  | .hbm, ⟨67, _⟩ => ⟨S_, .f32⟩
  | .hbm, ⟨68, _⟩ => ⟨S16x32768x512, .i1⟩
  | .hbm, ⟨69, _⟩ => ⟨S16x32768x512, .f32⟩
  | .hbm, ⟨70, _⟩ => ⟨S16x32768x512, .f32⟩
  | .hbm, ⟨71, _⟩ => ⟨S16x32768x512, .f32⟩
  | .hbm, ⟨72, _⟩ => ⟨S_, .f32⟩
  | .hbm, ⟨73, _⟩ => ⟨S16x512, .f32⟩
  | .hbm, ⟨74, _⟩ => ⟨S_, .f32⟩
  | .hbm, ⟨75, _⟩ => ⟨S16x512, .f32⟩
  | .hbm, ⟨76, _⟩ => ⟨S16x512, .i1⟩
  | .hbm, ⟨77, _⟩ => ⟨S_, .f32⟩
  | .hbm, ⟨78, _⟩ => ⟨S16x512, .f32⟩
  | .hbm, ⟨79, _⟩ => ⟨S16x512, .f32⟩
  | .hbm, ⟨80, _⟩ => ⟨S_, .i32⟩
  | .hbm, ⟨81, _⟩ => ⟨S32768, .i32⟩
  | .hbm, ⟨82, _⟩ => ⟨S32768, .i1⟩
  | .hbm, ⟨83, _⟩ => ⟨S_, .i32⟩
  | .hbm, ⟨84, _⟩ => ⟨S32768, .i32⟩
  | .hbm, ⟨85, _⟩ => ⟨S32768, .i32⟩
  | .hbm, ⟨86, _⟩ => ⟨S32768, .i32⟩
  | .hbm, ⟨87, _⟩ => ⟨S32768x1, .i32⟩
  | .hbm, ⟨88, _⟩ => ⟨S1, .i32⟩
  | .hbm, ⟨89, _⟩ => ⟨S_, .i32⟩
  | .hbm, ⟨90, _⟩ => ⟨S32768x1, .i32⟩
  | .hbm, ⟨91, _⟩ => ⟨S32768x1, .i1⟩
  | .hbm, ⟨92, _⟩ => ⟨S1x1, .i32⟩
  | .hbm, ⟨93, _⟩ => ⟨S32768x1, .i32⟩
  | .hbm, ⟨94, _⟩ => ⟨S32768x1, .i1⟩
  | .hbm, ⟨95, _⟩ => ⟨S32768x1, .i1⟩
  | .hbm, ⟨96, _⟩ => ⟨S_, .i1⟩
  | .hbm, ⟨97, _⟩ => ⟨S32768, .i1⟩
  | .hbm, ⟨98, _⟩ => ⟨S32768x512, .f32⟩
  | .hbm, ⟨99, _⟩ => ⟨S32768x512, .i1⟩
  | .hbm, ⟨100, _⟩ => ⟨S_, .f32⟩
  | .hbm, ⟨101, _⟩ => ⟨S32768x512, .f32⟩
  | .hbm, ⟨102, _⟩ => ⟨S32768x512, .f32⟩
  | .hbm, ⟨103, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_call1_call0_c : Ref sig .tc := ⟨.hbm, 13, rfl⟩
abbrev main_call1_call0_v0 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_c_2 : Ref sig .tc := ⟨.hbm, 18, rfl⟩
abbrev main_v6 : Ref sig .tc := ⟨.hbm, 19, rfl⟩
abbrev main_v7 : Ref sig .tc := ⟨.hbm, 20, rfl⟩
abbrev main_c_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_call2_call0_c : Ref sig .tc := ⟨.hbm, 29, rfl⟩
abbrev main_call2_call0_v0 : Ref sig .tc := ⟨.hbm, 30, rfl⟩
abbrev main_v14 : Ref sig .tc := ⟨.hbm, 31, rfl⟩
abbrev main_c_5 : Ref sig .tc := ⟨.hbm, 32, rfl⟩
abbrev main_v15 : Ref sig .tc := ⟨.hbm, 33, rfl⟩
abbrev main_v16 : Ref sig .tc := ⟨.hbm, 34, rfl⟩
abbrev main_call3_c : Ref sig .tc := ⟨.hbm, 35, rfl⟩
abbrev main_call3_v0 : Ref sig .tc := ⟨.hbm, 36, rfl⟩
abbrev main_call3_v1 : Ref sig .tc := ⟨.hbm, 37, rfl⟩
abbrev main_call3_c_0 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_call3_v5 : Ref sig .tc := ⟨.hbm, 42, rfl⟩
abbrev main_call3_c_1 : Ref sig .tc := ⟨.hbm, 43, rfl⟩
abbrev main_call3_c_2 : Ref sig .tc := ⟨.hbm, 44, rfl⟩
abbrev main_call3_v6 : Ref sig .tc := ⟨.hbm, 45, rfl⟩
abbrev main_call3_v7 : Ref sig .tc := ⟨.hbm, 46, rfl⟩
abbrev main_call3_v8 : Ref sig .tc := ⟨.hbm, 47, rfl⟩
abbrev main_call3_v9 : Ref sig .tc := ⟨.hbm, 48, rfl⟩
abbrev main_call3_v10 : Ref sig .tc := ⟨.hbm, 49, rfl⟩
abbrev main_call3_v11 : Ref sig .tc := ⟨.hbm, 50, rfl⟩
abbrev main_call3_c_3 : Ref sig .tc := ⟨.hbm, 51, rfl⟩
abbrev main_call3_v12 : Ref sig .tc := ⟨.hbm, 52, rfl⟩
abbrev main_call3_v13 : Ref sig .tc := ⟨.hbm, 53, rfl⟩
abbrev main_call3_c_4 : Ref sig .tc := ⟨.hbm, 54, rfl⟩
abbrev main_call3_v14 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_cst : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_call4_v3 : Ref sig .tc := ⟨.hbm, 70, rfl⟩
abbrev main_v27 : Ref sig .tc := ⟨.hbm, 71, rfl⟩
abbrev main_cst_6 : Ref sig .tc := ⟨.hbm, 72, rfl⟩
abbrev main_v28 : Ref sig .tc := ⟨.hbm, 73, rfl⟩
abbrev main_cst_7 : Ref sig .tc := ⟨.hbm, 74, rfl⟩
abbrev main_v29 : Ref sig .tc := ⟨.hbm, 75, rfl⟩
abbrev main_v30 : Ref sig .tc := ⟨.hbm, 76, rfl⟩
abbrev main_cst_8 : Ref sig .tc := ⟨.hbm, 77, rfl⟩
abbrev main_call5_v0 : Ref sig .tc := ⟨.hbm, 78, rfl⟩
abbrev main_v31 : Ref sig .tc := ⟨.hbm, 79, rfl⟩
abbrev main_call6_c : Ref sig .tc := ⟨.hbm, 80, rfl⟩
abbrev main_call6_v0 : Ref sig .tc := ⟨.hbm, 81, rfl⟩
abbrev main_call6_v1 : Ref sig .tc := ⟨.hbm, 82, rfl⟩
abbrev main_call6_c_0 : Ref sig .tc := ⟨.hbm, 83, rfl⟩
abbrev main_call6_v2 : Ref sig .tc := ⟨.hbm, 84, rfl⟩
abbrev main_call6_v3 : Ref sig .tc := ⟨.hbm, 85, rfl⟩
abbrev main_call6_v4 : Ref sig .tc := ⟨.hbm, 86, rfl⟩
abbrev main_call6_v5 : Ref sig .tc := ⟨.hbm, 87, rfl⟩
abbrev main_call6_c_1 : Ref sig .tc := ⟨.hbm, 88, rfl⟩
abbrev main_call6_c_2 : Ref sig .tc := ⟨.hbm, 89, rfl⟩
abbrev main_call6_v6 : Ref sig .tc := ⟨.hbm, 90, rfl⟩
abbrev main_call6_v7 : Ref sig .tc := ⟨.hbm, 91, rfl⟩
abbrev main_call6_v8 : Ref sig .tc := ⟨.hbm, 92, rfl⟩
abbrev main_call6_v9 : Ref sig .tc := ⟨.hbm, 93, rfl⟩
abbrev main_call6_v10 : Ref sig .tc := ⟨.hbm, 94, rfl⟩
abbrev main_call6_v11 : Ref sig .tc := ⟨.hbm, 95, rfl⟩
abbrev main_call6_c_3 : Ref sig .tc := ⟨.hbm, 96, rfl⟩
abbrev main_call6_v12 : Ref sig .tc := ⟨.hbm, 97, rfl⟩
abbrev main_call6_v13 : Ref sig .tc := ⟨.hbm, 98, rfl⟩
abbrev main_call6_v14 : Ref sig .tc := ⟨.hbm, 99, rfl⟩
abbrev main_call6_cst : Ref sig .tc := ⟨.hbm, 100, rfl⟩
abbrev main_call6_v15 : Ref sig .tc := ⟨.hbm, 101, rfl⟩
abbrev main_v32 : Ref sig .tc := ⟨.hbm, 102, rfl⟩
abbrev main_v33 : Ref sig .tc := ⟨.hbm, 103, rfl⟩

abbrev nD : Nat := 1
abbrev τ : Topo := Topo.v7x

variable {F : FTy → Type} [FloatOps F]
-- ==== Proof.KernelIdeal.Segment.lean ====
/-
  The kernel's body as sixteen runs of one segment program: bring one segment's sixteen columns into the tile's memory, fold the
  largest magnitude of each column, scale every row, send the block back. The printed body is cut into windows that do not fall on
  the segments; the equation below is by associativity of sequencing and unfolding.
-/
module

public import proofs.«01_k».proof.Defs
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen
open Idealize.ShloMosaic Idealize.SL.Sem

variable {F : FTy → Type} [FloatOps F]

/-- The first loop of a segment: fold the largest magnitudes over the 2048 rows, one row a trip. -/
def maxLoop (i : grid0.Coords) (arg4 : Memref sig .scVector .vmem S2048x16 .f32) :
    Prog (TpuEff nD τ sig (Elt F) Λ₀ (.scVector ((i 0).castLE hcore0) ((i 1).castLE hsub0))) (FVec F S16 .f32) :=
  Scf.Loop.for k0_t1_loop k0_t1_ok (k0_pay1 (F := F)) fun k acc => do
    let w : Vec F S1x16 .f32 ← Prog.lift (.load arg4 (Rect.unit (s := S2048x16) (k0_off2 k) S1x16.size (k0_off2_inb k)).toLoadRect (View.loadsAt_vmem h_S1x16))
    pure (k0_pay2 acc w)

/-- The second loop of a segment: scale the 2048 rows in place, one row a trip. -/
def scaleLoop (i : grid0.Coords) (arg4 : Memref sig .scVector .vmem S2048x16 .f32) (mx : FVec F S16 .f32) :
    Prog (TpuEff nD τ sig (Elt F) Λ₀ (.scVector ((i 0).castLE hcore0) ((i 1).castLE hsub0))) Unit :=
  Scf.Loop.for k0_t2_loop k0_t2_ok ⟨⟩ fun k _ => do
    let w : Vec F S1x16 .f32 ← Prog.lift (.load arg4 (Rect.unit (s := S2048x16) (k0_off3 k) S1x16.size (k0_off3_inb k)).toLoadRect (View.loadsAt_vmem h_S1x16))
    let _w : Vec F S1x16 .f32 ← Prog.lift (.load arg4 (Rect.unit (s := S2048x16) (k0_off3 k) S1x16.size (k0_off3_inb k)).toLoadRect (View.loadsAt_vmem h_S1x16))
    Prog.lift (.store arg4 (Rect.unit (s := S2048x16) (k0_off3 k) S1x16.size (k0_off3_inb k)) (k0_pay3 mx w) Finset.univ (View.stores_vmem_bits_univ h_S1x16 rfl) (.inl rfl))
    pure ⟨⟩

/-- One segment at offset `off` of the two arrays, on the semaphore `a` for the copy in and `b` for the copy out. -/
def segProg (i : grid0.Coords) (arg2 : Memref sig .scVector .hbm S32768x512 .f32) (arg3 : Memref sig .scVector .hbm S32768x512 .f32)
    (arg4 : Memref sig .scVector .vmem S2048x16 .f32) (harg4 : arg4.IsWhole) (a b : DmaSems sig S_) (off : Fin 2 → Nat)
    (hoff : ∀ x, off x + S2048x16.size x ≤ S32768x512.size x) :
    Prog (TpuEff nD τ sig (Elt F) Λ₀ (.scVector ((i 0).castLE hcore0) ((i 1).castLE hsub0))) PUnit := do
  Prog.lift (.enqueueDma (arg2.slice (Rect.unit (s := S32768x512) off S2048x16.size hoff) (fun _ => rfl)) (.here arg4) (.dma a.sem) (View.wordExact_bits rfl) harg4.wordExact ⟨Or.inl rfl, trivial⟩)
  Prog.lift (.waitDma2 a.sem (arg2.slice (Rect.unit (s := S32768x512) off S2048x16.size hoff) (fun _ => rfl)) arg4 (View.wordExact_bits rfl) harg4.wordExact)
  let mx ← maxLoop i arg4
  scaleLoop i arg4 mx
  Prog.lift (.enqueueDma arg4 (.here (arg3.slice (Rect.unit (s := S32768x512) off S2048x16.size hoff) (fun _ => rfl))) (.dma b.sem) harg4.wordExact (View.wordExact_bits rfl) ⟨Or.inl rfl, trivial⟩)
  Prog.lift (.waitDma2 b.sem arg4 (arg3.slice (Rect.unit (s := S32768x512) off S2048x16.size hoff) (fun _ => rfl)) harg4.wordExact (View.wordExact_bits rfl))

set_option maxRecDepth 65536 in
set_option maxHeartbeats 4000000 in
/-- The printed body is its sixteen segments, one after another. -/
theorem body_eq (i : grid0.Coords) (arg2 : Memref sig .scVector .hbm S32768x512 .f32) (harg2 : arg2.IsWhole) (arg3 : Memref sig .scVector .hbm S32768x512 .f32) (harg3 : arg3.IsWhole)
    (arg4 : Memref sig .scVector .vmem S2048x16 .f32) (harg4 : arg4.IsWhole) :
    cc0__sc_body (F := F) i arg2 harg2 arg3 harg3 arg4 harg4 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31
      = (do
        segProg i arg2 arg3 arg4 harg4 cc0_scoped0 cc0_scoped1 (k0_off1 i) (k0_off1_inb i)
        segProg i arg2 arg3 arg4 harg4 cc0_scoped2 cc0_scoped3 (k0_off4 i) (k0_off4_inb i)
        segProg i arg2 arg3 arg4 harg4 cc0_scoped4 cc0_scoped5 (k0_off7 i) (k0_off7_inb i)
        segProg i arg2 arg3 arg4 harg4 cc0_scoped6 cc0_scoped7 (k0_off10 i) (k0_off10_inb i)
        segProg i arg2 arg3 arg4 harg4 cc0_scoped8 cc0_scoped9 (k0_off13 i) (k0_off13_inb i)
        segProg i arg2 arg3 arg4 harg4 cc0_scoped10 cc0_scoped11 (k0_off16 i) (k0_off16_inb i)
        segProg i arg2 arg3 arg4 harg4 cc0_scoped12 cc0_scoped13 (k0_off19 i) (k0_off19_inb i)
        segProg i arg2 arg3 arg4 harg4 cc0_scoped14 cc0_scoped15 (k0_off22 i) (k0_off22_inb i)
        segProg i arg2 arg3 arg4 harg4 cc0_scoped16 cc0_scoped17 (k0_off25 i) (k0_off25_inb i)
        segProg i arg2 arg3 arg4 harg4 cc0_scoped18 cc0_scoped19 (k0_off28 i) (k0_off28_inb i)
        segProg i arg2 arg3 arg4 harg4 cc0_scoped20 cc0_scoped21 (k0_off31 i) (k0_off31_inb i)
        segProg i arg2 arg3 arg4 harg4 cc0_scoped22 cc0_scoped23 (k0_off34 i) (k0_off34_inb i)
        segProg i arg2 arg3 arg4 harg4 cc0_scoped24 cc0_scoped25 (k0_off37 i) (k0_off37_inb i)
        segProg i arg2 arg3 arg4 harg4 cc0_scoped26 cc0_scoped27 (k0_off40 i) (k0_off40_inb i)
        segProg i arg2 arg3 arg4 harg4 cc0_scoped28 cc0_scoped29 (k0_off43 i) (k0_off43_inb i)
        segProg i arg2 arg3 arg4 harg4 cc0_scoped30 cc0_scoped31 (k0_off46 i) (k0_off46_inb i)
        pure ⟨⟩) := by
  rw [cc0__sc_body_eq_skeleton]
  unfold cc0__sc_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  unfold segProg
  simp only [bind_assoc, pure_bind]
  rfl

end Cert.Proof.KernelIdeal

end
-- ==== Proof.KernelIdeal.Loops.lean ====
/-
  The two loops of a segment over the tile's block: what each leaves, as a value of the block it started from.
-/
module

public import proofs.«01_k».proof.Proof.KernelIdeal.Segment
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.ValueIdxCore
public import Idealize.ShloMosaic.Lib.WritesUnit
public import Idealize.ShloMosaic.Lib.Tactic

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2)
open Idealize.ShloMosaic.Tactic

variable {F : FTy → Type}

/-- No variants beyond the launch's. -/
abbrev 𝒱₀ : Variants := Variants.none

/-- The resources' algebra: the handshakes' rounds beside the transfers' counters. -/
abbrev UH : Type := URounds (GSem nD τ sig) ℕ
/-- The pair of the two. -/
abbrev UU : Type := UH × Counters

local notation "𝕄" => MT nD τ sig (HIx 1) (Elt F) ℕ UU ℕ

local notation "xW" => (Memref.whole Cert.KernelIdeal.main_arg0_scv : Memref Cert.KernelIdeal.sig Kind.scVector Space.hbm Cert.KernelIdeal.S32768x512 EltTy.f32)
local notation "oW" => (Memref.whole Cert.KernelIdeal.main_v0_scv : Memref Cert.KernelIdeal.sig Kind.scVector Space.hbm Cert.KernelIdeal.S32768x512 EltTy.f32)
local notation "bW" => (Memref.whole Cert.KernelIdeal.cc0_scratch0 : Memref Cert.KernelIdeal.sig Kind.scVector Space.vmem Cert.KernelIdeal.S2048x16 EltTy.f32)

variable [FloatOps F]

/-! ## The values -/

/-- Row `n` of a block, as a one-row block. -/
def rowOf (g : S2048x16.Idx → F .f32) (n : Fin 2048) : S1x16.Idx → F .f32 := fun y => g (ix2 n (y 1))

/-- The largest magnitude of each column over the first `n` rows of a block, as the first loop folds it. -/
def maxTo (g : S2048x16.Idx → F .f32) : ℕ → S16.Idx → F .f32
  | 0 => k0_pay1
  | n + 1 => if h : n < 2048 then k0_pay2 (maxTo g n) (rowOf g ⟨n, h⟩) else maxTo g n

/-- A block scaled: every row multiplied by the reciprocal of its columns' largest magnitudes. -/
def scaled (g : S2048x16.Idx → F .f32) : S2048x16.Idx → F .f32 :=
  fun y => k0_pay3 (maxTo g 2048) (rowOf g (y 0)) (ix2 0 (y 1))

/-- The block while the second loop has `n` rows behind it. -/
def scaledTo (g : S2048x16.Idx → F .f32) (n : ℕ) : S2048x16.Idx → F .f32 :=
  fun y => if (y 0).val < n then scaled g y else g y

/-! ## The loops -/

variable (d : Dev nD) (i : grid0.Coords)

/-- The tile's thread. -/
abbrev thr : Thread nD τ := V d ((i 0).castLE hcore0) ((i 1).castLE hsub0)

/-- The tile's block held whole at `g`. -/
abbrev buf (g : S2048x16.Idx → F .f32) : sProp 𝕄 := (bW).view.loc (thr d i) ↦{fullShare} g

/-- What a load of row `n` of the block reads. -/
theorem readRow_eq (g : S2048x16.Idx → F .f32) (n : Fin 2048) (off : Fin 2 → ℕ) (hoff : ∀ a, off a + S1x16.size a ≤ S2048x16.size a)
    (h : off = ![n.val, 0]) : (bW).view.readAt (Elt F) (Rect.unit (s := S2048x16) off S1x16.size hoff).toLoadRect g = rowOf g n := by
  subst h
  funext y
  show g _ = g _
  congr 1
  funext a
  apply Fin.ext
  match a with
  | 0 => show n.val + 1 * (y 0).val = n.val; have : (y 0).val < 1 := (y 0).isLt; omega
  | 1 => show 0 + 1 * (y 1).val = (y 1).val; omega

/-- The first loop leaves the block as it was and answers its columns' largest magnitudes. -/
theorem maxLoop_wp (g : S2048x16.Idx → F .f32) :
    (buf d i g : sProp 𝕄) ⊢ wp frame (wpE (defs₀ (F := F)) 𝒱₀ (thr d i) none) Set.univ (maxLoop i bW)
      fun r => iprop(⌜r = maxTo g 2048⌝ ∗ buf d i g) := by
  have ht : k0_t1_loop.trips = 2048 := by decide
  unfold maxLoop
  refine BIBase.Entails.trans ?_ (Scf.wp_for frame (wpE (defs₀ (F := F)) 𝒱₀ (thr d i) none) Set.univ k0_t1_loop.lb k0_t1_loop.ub k0_t1_loop.st k0_t1_ok (k0_pay1 (F := F)) _
    (fun n r => iprop(⌜r = maxTo g n⌝ ∗ buf d i g)) ?_)
  · iintro Hb
    isplitl [Hb]
    · isplitr; · ipureintro; rfl
      iexact Hb
    · iintro %acc H
      rw [← ht]
      iexact H
  · intro k acc
    iintro ⟨%hacc, Hb⟩
    sl_exec
    sl_step
    isplitr
    · ipureintro
      have hk : k.val < 2048 := ht ▸ k.isLt
      rw [hacc, maxTo, dif_pos hk, readRow_eq g ⟨k.val, hk⟩ _ _ (k0_off2_eq k)]
    · iexact Hb

/-- Row `n` of the block while the second loop is at row `n`: not yet scaled. -/
theorem rowOf_scaledTo (g : S2048x16.Idx → F .f32) (n : Fin 2048) : rowOf (scaledTo g n.val) n = rowOf g n := by
  funext y
  exact if_neg (Nat.lt_irrefl _)

/-- One row stored in a block: the row's words at that row, the rest as before. -/
theorem read_writes_row {κ : Kind} {sp : Space} {Val : EltTy → Type} (v : View sig κ sp S2048x16 .f32) (f : v.ty.Contents Val) (n : Fin 2048)
    (off : Fin 2 → ℕ) (hoff : ∀ a, off a + S1x16.size a ≤ S2048x16.size a) (h : off = ![n.val, 0]) (w : S1x16.Idx → Val .f32) (y : S2048x16.Idx) :
    v.read Val (v.writes Val f [⟨Rect.unit (s := S2048x16) off S1x16.size hoff, w⟩]) y
      = if (y 0).val = n.val then w (ix2 0 (y 1)) else v.read Val f y := by
  by_cases hy : (y 0).val = n.val
  · rw [if_pos hy]
    exact View.read_writes_cons_unit_of_mem v f hoff w [] y (ix2 0 (y 1)) h
      (Fin.forall_fin_two.mpr ⟨hy.trans (Nat.add_zero _).symm, (Nat.zero_add _).symm⟩)
  · rw [if_neg hy]
    exact View.read_writes_cons_unit_of_not_mem v f hoff w [] y h 0 (show (y 0).val < n.val ∨ n.val + 1 ≤ (y 0).val by omega)

/-- Storing row `n` scaled takes the block from `n` rows behind to `n + 1`. -/
theorem store_row (g : S2048x16.Idx → F .f32) (n : Fin 2048) (off : Fin 2 → ℕ) (hoff : ∀ a, off a + S1x16.size a ≤ S2048x16.size a)
    (h : off = ![n.val, 0]) :
    (bW).view.writes (Elt F) (scaledTo g n.val) [⟨Rect.unit (s := S2048x16) off S1x16.size hoff, k0_pay3 (maxTo g 2048) (rowOf g n)⟩]
      = scaledTo g (n.val + 1) := by
  funext y
  refine Eq.trans (congrFun (View.read_whole cc0_scratch0 _).symm y) ?_
  refine (read_writes_row (Val := Elt F) (bW).view (scaledTo g n.val) n off hoff h (k0_pay3 (maxTo g 2048) (rowOf g n)) y).trans ?_
  by_cases hy : (y 0).val = n.val
  · have hn : y 0 = n := Fin.ext hy
    rw [if_pos hy]
    unfold scaledTo
    rw [if_pos (hy ▸ Nat.lt_succ_self _), scaled, hn]
  · rw [if_neg hy]
    show scaledTo g n.val y = _
    unfold scaledTo
    by_cases hlt : (y 0).val < n.val
    · rw [if_pos hlt, if_pos (by omega)]
    · rw [if_neg hlt, if_neg (by omega)]

/-- The second loop leaves the block scaled. -/
theorem scaleLoop_wp (g : S2048x16.Idx → F .f32) :
    (buf d i g : sProp 𝕄) ⊢ wp frame (wpE (defs₀ (F := F)) 𝒱₀ (thr d i) none) Set.univ (scaleLoop i bW (maxTo g 2048))
      fun _ => buf d i (scaled g) := by
  have ht : k0_t2_loop.trips = 2048 := by decide
  have h0 : scaledTo g 0 = g := funext fun y => if_neg (Nat.not_lt_zero _)
  have h1 : scaledTo g 2048 = scaled g := funext fun y => if_pos (y 0).isLt
  unfold scaleLoop
  refine BIBase.Entails.trans ?_ (Scf.wp_for frame (wpE (defs₀ (F := F)) 𝒱₀ (thr d i) none) Set.univ k0_t2_loop.lb k0_t2_loop.ub k0_t2_loop.st k0_t2_ok () _
    (fun n _ => buf d i (scaledTo g n)) ?_)
  · iintro Hb
    isplitl [Hb]
    · rw [h0]; iexact Hb
    · iintro %acc H
      rw [← h1, ← ht]
      iexact H
  · intro k acc
    have hk : k.val < 2048 := ht ▸ k.isLt
    iintro Hb
    sl_exec
    sl_step
    rw [readRow_eq _ ⟨k.val, hk⟩ _ _ (k0_off3_eq k), rowOf_scaledTo g ⟨k.val, hk⟩, store_row g ⟨k.val, hk⟩ _ _ (k0_off3_eq k)]
    iexact Hb

end Cert.Proof.KernelIdeal

end
-- ==== Proof.KernelIdeal.Tile.lean ====
/-
  One segment of a tile's task: from its block of `x`, its block of the result, the tile's memory and the segment's two semaphores,
  to the result's block holding what the reference's mathematics asks of it.
-/
module

public import proofs.«01_k».proof.Proof.KernelIdeal.Loops

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 eq_ix2)

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S32768x512 EltTy.f32)
local notation "oW" => (Memref.whole Cert.KernelIdeal.main_v0_scv : Memref Cert.KernelIdeal.sig Kind.scVector Space.hbm Cert.KernelIdeal.S32768x512 EltTy.f32)
local notation "bW" => (Memref.whole Cert.KernelIdeal.cc0_scratch0 : Memref Cert.KernelIdeal.sig Kind.scVector Space.vmem Cert.KernelIdeal.S2048x16 EltTy.f32)

variable [FloatOps F]

/-! ## The result as a function of `x` -/

/-- Segment `s`'s sixteen columns from `16 w`. -/
def blk (X : S32768x512.Idx → F .f32) (s : Fin 16) (w : Fin 32) : S2048x16.Idx → F .f32 := fun y =>
  X (ix2 ⟨2048 * s.val + (y 0).val, by have := (y 0).isLt; have := s.isLt; simp only [Shape.size] at *; simp at *; omega⟩
    ⟨16 * w.val + (y 1).val, by have := (y 1).isLt; have := w.isLt; simp only [Shape.size] at *; simp at *; omega⟩)

/-- The block an element lies in: its segment, -/
def segOf (z : S32768x512.Idx) : Fin 16 := ⟨(z 0).val / 2048, by have : (z 0).val < 32768 := (z 0).isLt; omega⟩
/-- and its group of sixteen columns. -/
def colOf (z : S32768x512.Idx) : Fin 32 := ⟨(z 1).val / 16, by have : (z 1).val < 512 := (z 1).isLt; omega⟩
/-- Its place in that block. -/
def placeOf (z : S32768x512.Idx) : S2048x16.Idx := ix2 ⟨(z 0).val % 2048, Nat.mod_lt _ (by decide)⟩ ⟨(z 1).val % 16, Nat.mod_lt _ (by decide)⟩

/-- The kernel's result: every block scaled. -/
def outOf (X : S32768x512.Idx → F .f32) : S32768x512.Idx → F .f32 := fun z => scaled (blk X (segOf z) (colOf z)) (placeOf z)

/-- The elements of the block of segment `s` and columns `w`. -/
def cells (s : Fin 16) (w : Fin 32) : Finset S32768x512.Idx := Finset.univ.filter fun z => segOf z = s ∧ colOf z = w

/-! ## One segment -/

variable (d : Dev nD) (i : grid0.Coords)

/-- A block of `x` as the segment's copy reads it. -/
abbrev xBlk (off : Fin 2 → ℕ) (hoff : ∀ a, off a + S2048x16.size a ≤ S32768x512.size a) : Memref sig .scVector .hbm S2048x16 .f32 :=
  (xW).slice (Rect.unit (s := S32768x512) off S2048x16.size hoff) (fun _ => rfl)
/-- A block of the result as the segment's copy writes it. -/
abbrev oBlk (off : Fin 2 → ℕ) (hoff : ∀ a, off a + S2048x16.size a ≤ S32768x512.size a) : Memref sig .scVector .hbm S2048x16 .f32 :=
  (oW).slice (Rect.unit (s := S32768x512) off S2048x16.size hoff) (fun _ => rfl)

/-- Where a block's element lies in the whole array. -/
theorem emb_val (off : Fin 2 → ℕ) (hoff : ∀ a, off a + S2048x16.size a ≤ S32768x512.size a) (y : S2048x16.Idx) (a : Fin 2) :
    ((Rect.unit (s := S32768x512) off S2048x16.size hoff).emb y a).val = off a + (y a).val := by
  show off a + 1 * (y a).val = _
  rw [Nat.one_mul]

/-- A block read off the array. -/
theorem read_blk (X : S32768x512.Idx → F .f32) (s : Fin 16) (w : Fin 32) (off : Fin 2 → ℕ)
    (hoff : ∀ a, off a + S2048x16.size a ≤ S32768x512.size a) (h : off = ![2048 * s.val, 16 * w.val]) :
    (xBlk off hoff).view.read (Elt F) X = blk X s w := by
  subst h
  funext y
  show X _ = X _
  congr 1
  funext a
  apply Fin.ext
  refine (emb_val _ hoff y a).trans ?_
  match a with
  | 0 => rfl
  | 1 => rfl

/-- The result at a block's element. -/
theorem outOf_emb (X : S32768x512.Idx → F .f32) (s : Fin 16) (w : Fin 32) (off : Fin 2 → ℕ)
    (hoff : ∀ a, off a + S2048x16.size a ≤ S32768x512.size a) (h : off = ![2048 * s.val, 16 * w.val]) (y : S2048x16.Idx) :
    outOf X ((Rect.unit (s := S32768x512) off S2048x16.size hoff).emb y) = scaled (blk X s w) y := by
  have e0 := emb_val off hoff y 0
  have e1 := emb_val off hoff y 1
  generalize (Rect.unit (s := S32768x512) off S2048x16.size hoff).emb y = z at e0 e1
  subst h
  change (z 0).val = 2048 * s.val + (y 0).val at e0
  change (z 1).val = 16 * w.val + (y 1).val at e1
  have h0 : (y 0).val < 2048 := (y 0).isLt
  have h1 : (y 1).val < 16 := (y 1).isLt
  have hs : segOf z = s := Fin.ext (by show (z 0).val / 2048 = s.val; omega)
  have hw : colOf z = w := Fin.ext (by show (z 1).val / 16 = w.val; omega)
  have hp : placeOf z = y := by
    funext a
    apply Fin.ext
    match a with
    | 0 => show (z 0).val % 2048 = (y 0).val; omega
    | 1 => show (z 1).val % 16 = (y 1).val; omega
  rw [outOf, hs, hw, hp]

/-- A view's elements stored whole: its element `y` holds the stored word. -/
theorem writes_whole_emb {κ : Kind} {sp : Space} {sh : Shape} {Val : EltTy → Type} (v : View sig κ sp sh .f32) (f : v.ty.Contents Val)
    (g : sh.Idx → Val .f32) (y : sh.Idx) :
    v.writes Val f [⟨Rect.whole sh, g⟩] (v.emb y) = _root_.cast (congrArg Val v.elt_eq.symm) (g y) := by
  have h := View.read_writes_cons_emb v f (Rect.whole sh) g [] y
  rw [Rect.emb_whole_apply, View.read_apply] at h
  rw [← h, cast_cast, cast_eq]

/-- The debts a segment leaves: as before it, its own waits recorded beside the earlier ones. -/
abbrev owesFrom (O : CellTallies nD τ sig (HIx 1)) (W : Waits sig (HIx 1)) : sProp 𝕄 :=
  iprop(∃ W', ⌜∀ p ∈ W', p ∈ W ∨ p.2 = none⌝ ∗ owes (thr d i) O W')

/-- One segment: the block of `x` kept, the block of the result at its value, everything else as it was found. -/
theorem seg_wp (s : Fin 16) (w : Fin 32) (O : CellTallies nD τ sig (HIx 1)) (W : Waits sig (HIx 1)) (a b : DmaSems sig S_)
    (off : Fin 2 → ℕ) (hoff : ∀ x, off x + S2048x16.size x ≤ S32768x512.size x) (X : S32768x512.Idx → F .f32)
    (h : off = ![2048 * s.val, 16 * w.val]) :
    iprop(Transfers.MayWaits (thr d i) (none : HIx 1) O
        ∗ ((xBlk off hoff).view.loc (thr d i) ↦[(xBlk off hoff).view.set]{fullShare} X)
        ∗ (∃ f : S32768x512.Idx → F .f32, (oBlk off hoff).view.loc (thr d i) ↦[(oBlk off hoff).view.set]{fullShare} f)
        ∗ (∃ g, buf d i g)
        ∗ semVal (thr d i, SemLoc.dma a.sem) 0 ∗ semVal (thr d i, SemLoc.dma b.sem) 0 ∗ owesFrom d i O W)
      ⊢ wp frame (wpE (defs₀ (F := F)) 𝒱₀ (thr d i) none) Set.univ (segProg i xW oW bW (Memref.isWhole_whole _) a b off hoff)
        fun _ => iprop(((xBlk off hoff).view.loc (thr d i) ↦[(xBlk off hoff).view.set]{fullShare} X)
          ∗ ((oBlk off hoff).view.loc (thr d i) ↦[(oBlk off hoff).view.set]{fullShare} outOf X)
          ∗ (∃ g, buf d i g)
          ∗ semVal (thr d i, SemLoc.dma a.sem) 0 ∗ semVal (thr d i, SemLoc.dma b.sem) 0 ∗ owesFrom d i O W) := by
  unfold segProg
  iintro ⟨Hmw, Hx, ⟨%f, Ho⟩, ⟨%g, Hb⟩, Ha, Hbs, %W', %hW', HO⟩
  sl_exec (disch := exact View.amount_pos _ _ (show 0 < S2048x16.numel by decide))
  have e0 : View.write (Elt F) (bW).view g (seg_wp.sl.dma0 off hoff X) Finset.univ = (xBlk off hoff).view.read (Elt F) X := by
    refine (View.write_whole_univ (Val := Elt F) cc0_scratch0 g _).trans ?_
    unfold seg_wp.sl.dma0
    rfl
  rw [e0]
  iapply (wp_wand frame (wpE (defs₀ (F := F)) 𝒱₀ (thr d i) none) Set.univ) $$ [Hb]
  · iapply (maxLoop_wp d i ((xBlk off hoff).view.read (Elt F) X)); iexact Hb
  iintro %mx ⟨%hmx, Hb⟩
  subst hmx
  sl_exec
  iapply (wp_wand frame (wpE (defs₀ (F := F)) 𝒱₀ (thr d i) none) Set.univ) $$ [Hb]
  · iapply (scaleLoop_wp d i ((xBlk off hoff).view.read (Elt F) X)); iexact Hb
  iintro %u Hb
  sl_exec (disch := exact View.amount_pos _ _ (show 0 < S2048x16.numel by decide))
  sl_step
  have e1 : ((oBlk off hoff).view.loc (thr d i) ↦[(oBlk off hoff).view.set]{fullShare}
        (oBlk off hoff).view.writes (Elt F) f [⟨Rect.whole S2048x16, seg_wp.sl.dma0_1 off hoff X⟩] : sProp 𝕄)
      = ((oBlk off hoff).view.loc (thr d i) ↦[(oBlk off hoff).view.set]{fullShare} outOf X) := by
    refine pointsTo_congr fun z hz => ?_
    obtain ⟨y, -, rfl⟩ := Finset.mem_map.mp hz
    refine (writes_whole_emb (Val := Elt F) (oBlk off hoff).view f _ y).trans (Eq.trans ?_ (outOf_emb X s w off hoff h y).symm)
    rw [← read_blk X s w off hoff h]
    unfold seg_wp.sl.dma0_1
    rfl
  ihave Ho := (Entails.of_eq e1) $$ Ho
  isplitl [Hx]; · iexact Hx
  isplitl [Ho]; · iexact Ho
  isplitl [Hb]; · iexists _; iexact Hb
  isplitl [Ha]; · iexact Ha
  isplitl [Hbs]; · iexact Hbs
  iexists (insert (SemLoc.dma b.sem, (default : HIx 1)) (insert (SemLoc.dma a.sem, (default : HIx 1)) W')); isplitr
  · ipureintro; intro p hp
    rcases Finset.mem_insert.mp hp with hp | hp
    · exact .inr (hp ▸ rfl)
    rcases Finset.mem_insert.mp hp with hp | hp
    · exact .inr (hp ▸ rfl)
    · exact hW' p hp
  · iexact HO

end Cert.Proof.KernelIdeal

end
-- ==== Proof.KernelIdeal.Task.lean ====
/-
  A tile's whole task: its sixteen segments, one after another, from its sixteen blocks of `x` and of the result.
-/
module

public import proofs.«01_k».proof.Proof.KernelIdeal.Tile

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 eq_ix2)

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S32768x512 EltTy.f32)
local notation "oW" => (Memref.whole Cert.KernelIdeal.main_v0_scv : Memref Cert.KernelIdeal.sig Kind.scVector Space.hbm Cert.KernelIdeal.S32768x512 EltTy.f32)
local notation "bW" => (Memref.whole Cert.KernelIdeal.cc0_scratch0 : Memref Cert.KernelIdeal.sig Kind.scVector Space.vmem Cert.KernelIdeal.S2048x16 EltTy.f32)

variable [FloatOps F]

/-! ## The task as a list of segments -/

/-- The semaphore of segment `k`'s copy in. -/
def semIn : Fin 16 → DmaSems sig S_ := ![cc0_scoped0, cc0_scoped2, cc0_scoped4, cc0_scoped6, cc0_scoped8, cc0_scoped10, cc0_scoped12, cc0_scoped14, cc0_scoped16, cc0_scoped18, cc0_scoped20, cc0_scoped22, cc0_scoped24, cc0_scoped26, cc0_scoped28, cc0_scoped30]
/-- The semaphore of segment `k`'s copy out. -/
def semOut : Fin 16 → DmaSems sig S_ := ![cc0_scoped1, cc0_scoped3, cc0_scoped5, cc0_scoped7, cc0_scoped9, cc0_scoped11, cc0_scoped13, cc0_scoped15, cc0_scoped17, cc0_scoped19, cc0_scoped21, cc0_scoped23, cc0_scoped25, cc0_scoped27, cc0_scoped29, cc0_scoped31]

/-- The group of sixteen columns of a tile. -/
def wid (i : grid0.Coords) : Fin 32 := ⟨2 * (i 1).val + (i 0).val, by
  have h0 : (i 0).val < 2 := (i 0).isLt
  have h1 : (i 1).val < 16 := (i 1).isLt
  omega⟩

/-- Where segment `k` of a tile starts in the two arrays. -/
def offs (i : grid0.Coords) (k : Fin 16) : Fin 2 → ℕ := ![2048 * k.val, 32 * (i 1).val + 16 * (i 0).val]

/-- It is the tile's group of columns. -/
theorem offs_eq (i : grid0.Coords) (k : Fin 16) : offs i k = ![2048 * k.val, 16 * (wid i).val] := by
  unfold offs wid
  rw [show 32 * (i 1).val + 16 * (i 0).val = 16 * (2 * (i 1).val + (i 0).val) by omega]

/-- A segment's block lies within the arrays. -/
theorem offs_inb (i : grid0.Coords) (k : Fin 16) : ∀ x, offs i k x + S2048x16.size x ≤ S32768x512.size x := by
  rw [offs_eq]
  have hw := (wid i).isLt
  have hk := k.isLt
  intro x
  match x with
  | 0 => show 2048 * k.val + 2048 ≤ 32768; omega
  | 1 => show 16 * (wid i).val + 16 ≤ 512; omega

/-- The segments of a list, one after another. -/
def segsProg (i : grid0.Coords) (arg2 : Memref sig .scVector .hbm S32768x512 .f32) (arg3 : Memref sig .scVector .hbm S32768x512 .f32)
    (arg4 : Memref sig .scVector .vmem S2048x16 .f32) (harg4 : arg4.IsWhole) :
    List (Fin 16) → Prog (TpuEff nD τ sig (Elt F) Λ₀ (.scVector ((i 0).castLE hcore0) ((i 1).castLE hsub0))) PUnit
  | [] => pure ⟨⟩
  | k :: ks => do
    segProg i arg2 arg3 arg4 harg4 (semIn k) (semOut k) (offs i k) (offs_inb i k)
    segsProg i arg2 arg3 arg4 harg4 ks

set_option maxRecDepth 65536 in
/-- The printed body is the list of all sixteen segments. -/
theorem body_list (i : grid0.Coords) (arg2 : Memref sig .scVector .hbm S32768x512 .f32) (harg2 : arg2.IsWhole) (arg3 : Memref sig .scVector .hbm S32768x512 .f32) (harg3 : arg3.IsWhole)
    (arg4 : Memref sig .scVector .vmem S2048x16 .f32) (harg4 : arg4.IsWhole) :
    cc0__sc_body (F := F) i arg2 harg2 arg3 harg3 arg4 harg4 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31
      = segsProg i arg2 arg3 arg4 harg4 (List.finRange 16) := by
  rw [body_eq]
  simp only [k0_off1_eq, k0_off4_eq, k0_off7_eq, k0_off10_eq, k0_off13_eq, k0_off16_eq, k0_off19_eq, k0_off22_eq, k0_off25_eq, k0_off28_eq, k0_off31_eq, k0_off34_eq, k0_off37_eq, k0_off40_eq, k0_off43_eq, k0_off46_eq]
  rfl

/-! ## Its resources -/

variable (d : Dev nD) (i : grid0.Coords)

/-- `x` (the argument) and the result, as locations of device `d`. -/
abbrev xLoc (d : Dev nD) : Loc nD τ sig := (SparseCore.T d).loc main_arg0
/-- The result. -/
abbrev oLoc (d : Dev nD) : Loc nD τ sig := (SparseCore.T d).loc main_v0

/-- A block of `x`. -/
abbrev xCells (d : Dev nD) (w : Fin 32) (s : Fin 16) (X : Buf (Elt F) (xLoc d)) : sProp 𝕄 := xLoc d ↦[cells s w]{fullShare} X
/-- A block of the result. -/
abbrev oCells (d : Dev nD) (w : Fin 32) (s : Fin 16) (f : Buf (Elt F) (oLoc d)) : sProp 𝕄 := oLoc d ↦[cells s w]{fullShare} f

/-- The elements a segment's slice names are its block's. -/
theorem rect_set (s : Fin 16) (w : Fin 32) (off : Fin 2 → ℕ) (hoff : ∀ x, off x + S2048x16.size x ≤ S32768x512.size x)
    (h : off = ![2048 * s.val, 16 * w.val]) : (Rect.unit (s := S32768x512) off S2048x16.size hoff).set = cells s w := by
  subst h
  ext z
  rw [Rect.mem_set_unit, cells, Finset.mem_filter]
  have e : (∀ a : Fin 2, (![2048 * s.val, 16 * w.val] : Fin 2 → ℕ) a ≤ (z a).val ∧ (z a).val < (![2048 * s.val, 16 * w.val] : Fin 2 → ℕ) a + S2048x16.size a)
      ↔ (2048 * s.val ≤ (z 0).val ∧ (z 0).val < 2048 * s.val + 2048) ∧ (16 * w.val ≤ (z 1).val ∧ (z 1).val < 16 * w.val + 16) :=
    Fin.forall_fin_two
  refine e.trans ?_
  have e1 : segOf z = s ↔ (z 0).val / 2048 = s.val := Fin.ext_iff
  have e2 : colOf z = w ↔ (z 1).val / 16 = w.val := Fin.ext_iff
  rw [e1, e2]
  have ht : z ∈ (Finset.univ : Finset S32768x512.Idx) := Finset.mem_univ z
  simp only [ht, true_and]
  omega

/-- A segment's block of `x`, named through the tile's slice. -/
theorem pts_x (s : Fin 16) (w : Fin 32) (off : Fin 2 → ℕ) (hoff : ∀ x, off x + S2048x16.size x ≤ S32768x512.size x)
    (h : off = ![2048 * s.val, 16 * w.val]) (X : Buf (Elt F) (xLoc d)) :
    ((xBlk off hoff).view.loc (thr d i) ↦[(xBlk off hoff).view.set]{fullShare} X : sProp 𝕄) = xCells d w s X := by
  have e : (xBlk off hoff).view.set = cells s w := (View.set_slice_whole main_arg0_scv _).trans (rect_set s w off hoff h)
  rw [e]

/-- A segment's block of the result, named through the tile's slice. -/
theorem pts_o (s : Fin 16) (w : Fin 32) (off : Fin 2 → ℕ) (hoff : ∀ x, off x + S2048x16.size x ≤ S32768x512.size x)
    (h : off = ![2048 * s.val, 16 * w.val]) (f : Buf (Elt F) (oLoc d)) :
    ((oBlk off hoff).view.loc (thr d i) ↦[(oBlk off hoff).view.set]{fullShare} f : sProp 𝕄) = oCells d w s f := by
  have e : (oBlk off hoff).view.set = cells s w := (View.set_slice_whole main_v0_scv _).trans (rect_set s w off hoff h)
  rw [e]

/-- What segment `k` starts from. -/
def segPre (X : Buf (Elt F) (xLoc d)) (k : Fin 16) : sProp 𝕄 :=
  iprop((xCells d (wid i) k X ∗ ∃ f, oCells d (wid i) k f)
    ∗ semVal (thr d i, SemLoc.dma (semIn k).sem) 0 ∗ semVal (thr d i, SemLoc.dma (semOut k).sem) 0)
/-- What segment `k` leaves. -/
def segPost (X : S32768x512.Idx → F .f32) (k : Fin 16) : sProp 𝕄 :=
  iprop((xCells d (wid i) k X ∗ oCells d (wid i) k (outOf X))
    ∗ semVal (thr d i, SemLoc.dma (semIn k).sem) 0 ∗ semVal (thr d i, SemLoc.dma (semOut k).sem) 0)

/-- One segment of the list. -/
theorem seg_step (O : CellTallies nD τ sig (HIx 1)) (W : Waits sig (HIx 1)) (X : S32768x512.Idx → F .f32) (k : Fin 16) :
    iprop(Transfers.MayWaits (thr d i) (none : HIx 1) O ∗ segPre d i X k ∗ (∃ g, buf d i g) ∗ owesFrom d i O W)
      ⊢ wp frame (wpE (defs₀ (F := F)) 𝒱₀ (thr d i) none) Set.univ
          (segProg i xW oW bW (Memref.isWhole_whole _) (semIn k) (semOut k) (offs i k) (offs_inb i k))
        fun _ => iprop(segPost d i X k ∗ (∃ g, buf d i g) ∗ owesFrom d i O W) := by
  have h := seg_wp (F := F) d i k (wid i) O W (semIn k) (semOut k) (offs i k) (offs_inb i k) X (offs_eq i k)
  rw [pts_x d i k (wid i) _ _ (offs_eq i k), pts_o d i k (wid i) _ _ (offs_eq i k)] at h
  simp only [pts_o d i k (wid i) _ _ (offs_eq i k)] at h
  refine BIBase.Entails.trans ?_ (h.trans (wp_mono frame _ _ fun _ => ?_))
  · unfold segPre
    iintro ⟨Hm, ⟨⟨Hx, Ho⟩, Ha, Hc⟩, Hb, HO⟩
    isplitl [Hm]; · iexact Hm
    isplitl [Hx]; · iexact Hx
    isplitl [Ho]; · iexact Ho
    isplitl [Hb]; · iexact Hb
    isplitl [Ha]; · iexact Ha
    isplitl [Hc]; · iexact Hc
    iexact HO
  · unfold segPost
    iintro ⟨Hx, Ho, Hb, Ha, Hc, HO⟩
    isplitl [Hx Ho Ha Hc]
    · isplitl [Hx Ho]
      · isplitl [Hx] <;> iassumption
      isplitl [Ha] <;> iassumption
    isplitl [Hb] <;> iassumption

/-- The segments of a list without repeats, one after another. -/
theorem segs_wp (O : CellTallies nD τ sig (HIx 1)) (W : Waits sig (HIx 1)) (X : S32768x512.Idx → F .f32) (l : List (Fin 16)) (hl : l.Nodup) :
    iprop(Transfers.MayWaits (thr d i) (none : HIx 1) O ∗ bigSep l.toFinset (segPre d i X) ∗ (∃ g, buf d i g) ∗ owesFrom d i O W)
      ⊢ wp frame (wpE (defs₀ (F := F)) 𝒱₀ (thr d i) none) Set.univ (segsProg i xW oW bW (Memref.isWhole_whole _) l)
        fun _ => iprop(bigSep l.toFinset (segPost d i X) ∗ (∃ g, buf d i g) ∗ owesFrom d i O W) := by
  induction l with
  | nil =>
    rw [List.toFinset_nil, bigSep_empty, bigSep_empty, segsProg, wp_pure]
    iintro ⟨-, He, Hb, HO⟩
    imodintro
    isplitl [He]; · iexact He
    isplitl [Hb]; · iexact Hb
    iexact HO
  | cons k ks ih =>
    obtain ⟨hk, hks⟩ := List.nodup_cons.mp hl
    have hk' : k ∉ ks.toFinset := fun h => hk (List.mem_toFinset.mp h)
    rw [List.toFinset_cons, SparseCore.bigSep_insert' hk', SparseCore.bigSep_insert' hk', segsProg, wp_bind]
    iintro ⟨#Hm, ⟨Hk, Hks⟩, Hb, HO⟩
    iapply (wp_wand frame (wpE (defs₀ (F := F)) 𝒱₀ (thr d i) none) Set.univ) $$ [Hk Hb HO]
    · iapply (seg_step d i O W X k)
      isplitr; · iexact Hm
      isplitl [Hk]; · iexact Hk
      isplitl [Hb]; · iexact Hb
      iexact HO
    iintro %u ⟨Hk, Hb, HO⟩
    iapply (wp_wand frame (wpE (defs₀ (F := F)) 𝒱₀ (thr d i) none) Set.univ) $$ [Hks Hb HO]
    · iapply (ih hks)
      isplitr; · iexact Hm
      isplitl [Hks]; · iexact Hks
      isplitl [Hb]; · iexact Hb
      iexact HO
    iintro %u ⟨Hks, Hb, HO⟩
    isplitl [Hk Hks]
    · isplitl [Hk] <;> iassumption
    isplitl [Hb] <;> iassumption

end Cert.Proof.KernelIdeal

end
-- ==== Proof.KernelIdeal.Launch.lean ====
/-
  The launch: the arrays dealt to the tiles block by block, the tiles' tasks, the blocks joined back, and the run of the whole program.
-/
module

public import proofs.«01_k».proof.Proof.KernelIdeal.Task

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 eq_ix2)

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S32768x512 EltTy.f32)
local notation "oW" => (Memref.whole Cert.KernelIdeal.main_v0_scv : Memref Cert.KernelIdeal.sig Kind.scVector Space.hbm Cert.KernelIdeal.S32768x512 EltTy.f32)
local notation "bW" => (Memref.whole Cert.KernelIdeal.cc0_scratch0 : Memref Cert.KernelIdeal.sig Kind.scVector Space.vmem Cert.KernelIdeal.S2048x16 EltTy.f32)

variable [FloatOps F]

/-! ## The program as the launch sees it -/

/-- The labels of the program. -/
abbrev ΛP : Labels := Pipeline.Sig Λ₀ (Fin 0) fun p => (pcfgs (F := F) p).Adm
/-- The launch. -/
abbrev K : SparseCore.Cfg τ sig (ΛP (F := F)) 1 := sc (F := F)
/-- The definitions below the launch. -/
abbrev D : Defs nD τ sig (Elt F) (ΛP (F := F)) := Pipeline.defs pcfgs defs₀
/-- No variants beyond the launch's. -/
abbrev 𝒱 : Variants := 𝒱₀.lift
/-- The variant every task runs at. -/
abbrev v₀ : 𝒱.V := Sum.inl none

/-- The launch's semaphores are apart and unscoped. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' part of the resources. -/
abbrev EH : Emb UH (MT nD τ sig (HIx 1) (Elt F) ℕ UU ℕ) := embL

variable (m : (ℓ : Loc nD τ sig) → Buf (Elt F) ℓ) (ρ : Dev nD → PrngReg)

/-! ## What the handshakes carry -/

/-- The group of columns of tile `(c, j)`. -/
def widOf (c j : ℕ) : Fin 32 := Fin.ofNat 32 (2 * j + c)

/-- What a tile takes: its sixteen blocks of `x`, and its sixteen blocks of the result at any contents. -/
def tileGo (d : Dev nD) (w : Fin 32) : sProp 𝕄 :=
  bigSep Finset.univ fun s : Fin 16 => iprop(xCells d w s (m (xLoc d)) ∗ ∃ f, oCells d w s f)
/-- What a tile hands back: the same, the result's blocks at their values. -/
def tileTd (d : Dev nD) (w : Fin 32) : sProp 𝕄 :=
  bigSep Finset.univ fun s : Fin 16 => iprop(xCells d w s (m (xLoc d)) ∗ oCells d w s (outOf (m (xLoc d))))

instance tileGo_storable (d : Dev nD) (w : Fin 32) : BI.Storable (upEmb : UEmb _ 𝕄) (tileGo m d w) := by
  unfold tileGo; infer_instance
instance tileTd_storable (d : Dev nD) (w : Fin 32) : BI.Storable (upEmb : UEmb _ 𝕄) (tileTd m d w) := by
  unfold tileTd; infer_instance

/-- The one call: a SparseCore takes its tiles' shares and hands them back. -/
def P : (K (F := F)).Pay (nD := nD) (Val := Elt F) (Name := ℕ) (U := UU) where
  st := fun q d c => bigSep Finset.univ fun i : Fin ((K (F := F)).nSub q) => tileGo m d (widOf c.val i.val)
  dn := fun q d c => bigSep Finset.univ fun i : Fin ((K (F := F)).nSub q) => tileTd m d (widOf c.val i.val)
  go := fun _ d c i => tileGo m d (widOf c.val i.val)
  td := fun _ d c i => tileTd m d (widOf c.val i.val)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## A tile's task from what the launch hands it -/

section Tile

variable (d : Dev nD) (i : grid0.Coords)

/-- A tile's semaphore. -/
abbrev cellOf (a : DmaSems sig S_) : GSem nD τ sig := (thr d i, SemLoc.dma a.sem)

/-- Different segments copy in on different semaphores, -/
theorem semIn_inj : Function.Injective fun k : Fin 16 => (semIn k).sem := by decide
/-- copy out on different semaphores, -/
theorem semOut_inj : Function.Injective fun k : Fin 16 => (semOut k).sem := by decide
/-- and no semaphore serves both. -/
theorem semIn_ne_semOut : ∀ k l : Fin 16, (semIn k).sem ≠ (semOut l).sem := by decide
/-- The copies' semaphores are a task's own. -/
theorem semIn_scoped : ∀ k : Fin 16, (SemLoc.dma (semIn k).sem : SemLoc sig).isScoped .scVector = true := by decide
/-- Those of the copies out too. -/
theorem semOut_scoped : ∀ k : Fin 16, (SemLoc.dma (semOut k).sem : SemLoc sig).isScoped .scVector = true := by decide

/-- The cells of the copies in. -/
def inCells : Finset (GSem nD τ sig) := Finset.univ.image fun k : Fin 16 => cellOf d i (semIn k)
/-- The cells of the copies out. -/
def outCells : Finset (GSem nD τ sig) := Finset.univ.image fun k : Fin 16 => cellOf d i (semOut k)

/-- They are among the tile's own. -/
theorem inCells_sub : inCells d i ⊆ ownCells (thr d i) := fun g hg => by
  obtain ⟨k, -, rfl⟩ := Finset.mem_image.mp hg
  exact mem_ownCells.mpr ⟨rfl, semIn_scoped k⟩
/-- So are the others, apart from the first. -/
theorem outCells_sub : outCells d i ⊆ ownCells (thr d i) \ inCells d i := fun g hg => by
  obtain ⟨k, -, rfl⟩ := Finset.mem_image.mp hg
  refine Finset.mem_sdiff.mpr ⟨mem_ownCells.mpr ⟨rfl, semOut_scoped k⟩, fun h => ?_⟩
  obtain ⟨l, -, e⟩ := Finset.mem_image.mp h
  exact semIn_ne_semOut l k (SemLoc.dma.inj (Prod.mk.inj e).2)

/-- Three shares, the first two as one. -/
theorem sep_regroup (A B C : sProp 𝕄) : iprop(A ∗ B ∗ C) = iprop((A ∗ B) ∗ C) := by
  have h1 : iprop(A ∗ B ∗ C) ⊢ iprop((A ∗ B) ∗ C) := by
    iintro ⟨HA, HB, HC⟩
    isplitl [HA HB]
    · isplitl [HA] <;> iassumption
    · iexact HC
  have h2 : iprop((A ∗ B) ∗ C) ⊢ iprop(A ∗ B ∗ C) := by
    iintro ⟨⟨HA, HB⟩, HC⟩
    isplitl [HA]; · iexact HA
    isplitl [HB] <;> iassumption
  exact BI.equiv_iff.mp ⟨h1, h2⟩

/-- The tile's semaphores, all at zero: the segments' pairs and the rest. -/
theorem ownSems0_split :
    (ownSems0 (thr d i) : sProp 𝕄)
      = iprop((bigSep Finset.univ fun k : Fin 16 => iprop(semVal (cellOf d i (semIn k)) 0 ∗ semVal (cellOf d i (semOut k)) 0))
          ∗ bigSep ((ownCells (thr d i) \ inCells d i) \ outCells d i) fun g => semVal g 0) := by
  unfold SparseCore.Cfg.ownSems0
  rw [SparseCore.bigSep_sdiff_split' (inCells_sub d i), SparseCore.bigSep_sdiff_split' (outCells_sub d i)]
  rw [inCells, outCells, SparseCore.bigSep_image_of_injOn (fun a _ b _ e => semIn_inj (SemLoc.dma.inj (Prod.mk.inj e).2)),
    SparseCore.bigSep_image_of_injOn (fun a _ b _ e => semOut_inj (SemLoc.dma.inj (Prod.mk.inj e).2)), bigSep_sep']
  exact sep_regroup _ _ _

/-- The tile's buffers: its scratch and the rest. -/
theorem ownBufs_split :
    (ownBufs (thr d i) : sProp 𝕄)
      = iprop((∃ g, buf d i g) ∗ bigSep ((ownRefs (τ := τ) (thr d i).2).erase ((thr d i).2.devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := (thr d i).2) (b := (thr d i).2.devRef cc0_scratch0) rfl)

/-- A tile's whole task, from what the launch hands it to what it takes back. -/
theorem tile_body (hF : (K (F := F)).Facts) (O : CellTallies nD τ sig (HIx 1)) (W : Waits sig (HIx 1)) (hO : ∀ g, O g none = 0) :
    iprop(levAts (K (F := F)).L (K (F := F)).lev ∗ emp ∗ tileGo m d (wid i)
        ∗ scopedBufs (thr d i) ∗ scopedSems0 (thr d i) ∗ owes (thr d i) O W)
      ⊢ wp frame (wpE (defs₀ (F := F)) 𝒱₀ (thr d i) none) Set.univ
          (cc0__sc_body (F := F) i xW (Memref.isWhole_whole _) oW (Memref.isWhole_whole _) bW (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31)
          fun _ => iprop(tileTd m d (wid i) ∗ scopedBufs (thr d i) ∗ scopedSems0 (thr d i) ∗ owesFrom d i O W) := by
  rw [body_list]
  rw [(K (F := F)).scopedBufs_V hF d _ _, SparseCore.Cfg.scopedSems0_V (Val := Elt F) d _ _, ownSems0_split, ownBufs_split]
  have h := segs_wp (F := F) d i O W (m (xLoc d)) (List.finRange 16) (List.nodup_finRange 16)
  rw [List.toFinset_finRange] at h
  iintro ⟨#Hlv, -, Hgo, ⟨Hb, Hbufs⟩, ⟨Hs, Hsems⟩, HO⟩
  ihave Hmw := ((K (F := F)).mayWaits_none (thr := thr d i) hO) $$ Hlv
  iapply (wp_wand frame (wpE (defs₀ (F := F)) 𝒱₀ (thr d i) none) Set.univ) $$ [Hmw Hgo Hb Hs HO]
  · iapply h
    isplitl [Hmw]; · iexact Hmw
    isplitl [Hgo Hs]
    · iapply (Entails.of_eq (show iprop(tileGo m d (wid i)
          ∗ bigSep Finset.univ fun k : Fin 16 => iprop(semVal (cellOf d i (semIn k)) 0 ∗ semVal (cellOf d i (semOut k)) 0))
          = bigSep Finset.univ (segPre d i (m (xLoc d))) from (bigSep_sep' _ _ _).symm))
      isplitl [Hgo]; · iexact Hgo
      iexact Hs
    isplitl [Hb]; · iexact Hb
    iexists W; isplitr
    · ipureintro; exact fun p hp => Or.inl hp
    · iexact HO
  iintro %u ⟨Htd, Hb, HO⟩
  ihave Htd := (Entails.of_eq (show bigSep Finset.univ (segPost d i (m (xLoc d))) = iprop(tileTd m d (wid i)
      ∗ bigSep Finset.univ fun k : Fin 16 => iprop(semVal (cellOf d i (semIn k)) 0 ∗ semVal (cellOf d i (semOut k)) 0)) from by
    unfold segPost tileTd; rw [bigSep_sep'])) $$ Htd
  icases Htd with ⟨Htd, Hs⟩
  isplitl [Htd]; · iexact Htd
  isplitl [Hb Hbufs]
  · isplitl [Hb] <;> iassumption
  isplitl [Hs Hsems]
  · isplitl [Hs] <;> iassumption
  iexact HO

end Tile

/-! ## The launch's obligations -/

/-- The coordinates of tile `(c, s)`. -/
def coordsV (c : Fin (grid0.bound 0)) (s : Fin (grid0.bound 1)) : grid0.Coords :=
  fun | 0 => c | 1 => s | ⟨_ + 2, h⟩ => absurd h (Nat.not_lt.2 (Nat.le_add_left _ _))

/-- Its group of columns. -/
theorem wid_coordsV (c : Fin (grid0.bound 0)) (s : Fin (grid0.bound 1)) : wid (coordsV c s) = widOf c.val s.val := by
  have h0 : c.val < 2 := c.isLt
  have h1 : s.val < 16 := s.isLt
  apply Fin.ext
  show 2 * s.val + c.val = (2 * s.val + c.val) % 32
  omega

/-- What a vector subcore runs. -/
theorem defs₀_vector (c : Fin τ.nSC) (s : Fin τ.nSub) :
    defs₀ (F := F) (.scVector c s) 0 ()
      = SparseCore.onTile hcore0 hsub0 (fun c s => cc0__sc_body (F := F) (coordsV c s)
          xW (Memref.isWhole_whole _) oW (Memref.isWhole_whole _) bW (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31) ⟨⟩ c s := rfl

/-- The waits a task recorded, as the launch counts them. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile runs its task. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have h := tile_body m d (coordsV ⟨_, hc.1⟩ ⟨_, hc.2⟩) hF O W hO
  rw [wid_coordsV] at h
  exact h.trans (wp_mono frame _ _ fun _ => obl_post)

/-- A SparseCore deals its tiles their shares and joins them. -/
theorem vecSplit : (K (F := F)).VecSplit' (P m) 0 := by
  intro d c
  unfold P
  dsimp only
  iintro H; imodintro
  isplitl [H]; · iexact H
  iintro H; iexact H

/-! ## The launch's resources -/

/-- The launch element of the resources. -/
def u₀ : UU := (initOf (K (F := F)).hsCells (K (F := F)).hsToks, 1)

/-- Nothing many times over is nothing. -/
theorem bigSep_nothing {I : Type} (s : Finset I) : (bigSep s fun _ => iprop(emp)) = (iprop(emp) : sProp 𝕄) := bigSep_emp_const s

/-- The launch element gives the handshakes' part; the tasks ask for nothing of their own. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_nothing]; iempintro
  unfold P; dsimp only
  rw [show (bigSep Finset.univ fun _ : Thread nD τ => bigSep Finset.univ fun _ : Fin 1 => (iprop(emp) : sProp 𝕄)) = iprop(emp) from by
    rw [bigSep_congr fun _ _ => bigSep_nothing _, bigSep_nothing]]
  iempintro

/-! ## The arrays dealt out -/

/-- A block's elements, by column group and segment. -/
def cellsOf (p : Fin 32 × Fin 16) : Finset S32768x512.Idx := cells p.2 p.1

/-- Different blocks share no element. -/
theorem cellsOf_disjoint : ∀ p ∈ (Finset.univ : Finset (Fin 32 × Fin 16)), ∀ q ∈ (Finset.univ : Finset (Fin 32 × Fin 16)), p ≠ q → Disjoint (cellsOf p) (cellsOf q) := by
  intro p _ q _ hpq
  refine Finset.disjoint_left.mpr fun z hp hq => hpq ?_
  obtain ⟨-, a, b⟩ := Finset.mem_filter.mp hp
  obtain ⟨-, a', b'⟩ := Finset.mem_filter.mp hq
  exact Prod.ext (b.symm.trans b') (a.symm.trans a')

/-- The blocks are the whole array. -/
theorem cellsOf_cover : (Finset.univ : Finset (Fin 32 × Fin 16)).biUnion cellsOf = Finset.univ :=
  Finset.eq_univ_of_forall fun z => Finset.mem_biUnion.mpr ⟨(colOf z, segOf z), Finset.mem_univ _, Finset.mem_filter.mpr ⟨Finset.mem_univ z, rfl, rfl⟩⟩

/-- `x` whole is its blocks. -/
theorem x_blocks (d : Dev nD) (X : Buf (Elt F) (xLoc d)) :
    (xLoc d ↦{fullShare} X : sProp 𝕄) = bigSep Finset.univ fun w : Fin 32 => bigSep Finset.univ fun s : Fin 16 => xCells d w s X := by
  refine Eq.trans ?_ (bigSep_univ_prod fun p : Fin 32 × Fin 16 => xCells (F := F) d p.1 p.2 X)
  refine Eq.trans ?_ (pointsTo_biUnion Finset.univ (ℓ := xLoc d) cellsOf cellsOf_disjoint)
  rw [cellsOf_cover]

/-- The result whole is its blocks. -/
theorem o_blocks (d : Dev nD) (f : Buf (Elt F) (oLoc d)) :
    (oLoc d ↦{fullShare} f : sProp 𝕄) = bigSep Finset.univ fun w : Fin 32 => bigSep Finset.univ fun s : Fin 16 => oCells d w s f := by
  refine Eq.trans ?_ (bigSep_univ_prod fun p : Fin 32 × Fin 16 => oCells (F := F) d p.1 p.2 f)
  refine Eq.trans ?_ (pointsTo_biUnion Finset.univ (ℓ := oLoc d) cellsOf cellsOf_disjoint)
  rw [cellsOf_cover]

/-- Tiles and groups of columns go together. -/
theorem widOf_bij : Function.Bijective fun p : Fin 2 × Fin 16 => widOf p.1.val p.2.val := by
  refine ⟨fun p q e => ?_, fun w => ⟨(⟨w.val % 2, by omega⟩, ⟨w.val / 2, by omega⟩), ?_⟩⟩
  · have e' : (2 * p.2.val + p.1.val) % 32 = (2 * q.2.val + q.1.val) % 32 := congrArg Fin.val e
    exact Prod.ext (Fin.ext (by omega)) (Fin.ext (by omega))
  · apply Fin.ext
    show (2 * (w.val / 2) + w.val % 2) % 32 = w.val
    omega

/-- A share per tile is a share per group of columns. -/
theorem bigSep_tiles (Φ : Fin 32 → sProp 𝕄) :
    (bigSep Finset.univ fun c : Fin ((K (F := F)).nCore 0) => bigSep Finset.univ fun i : Fin ((K (F := F)).nSub 0) => Φ (widOf c.val i.val))
      = bigSep Finset.univ Φ := by
  rw [bigSep_univ_equiv (Equiv.ofBijective _ widOf_bij) Φ]
  exact (bigSep_univ_prod fun p : Fin 2 × Fin 16 => Φ (widOf p.1.val p.2.val)).symm

/-- The call takes `x` and the result whole, -/
theorem st0_intro (d : Dev nD) : iprop((xLoc d ↦{fullShare} m (xLoc d)) ∗ oLoc d ↦{fullShare} m (oLoc d))
    ⊢ (bigSep Finset.univ fun c : Fin ((K (F := F)).nCore 0) => (P m).st 0 d c : sProp 𝕄) := by
  refine BIBase.Entails.trans ?_ (Entails.of_eq (bigSep_tiles (F := F) (fun w => tileGo m d w)).symm)
  have h (w : Fin 32) (s : Fin 16) : iprop(xCells d w s (m (xLoc d)) ∗ oCells d w s (m (oLoc d)))
      ⊢ (iprop(xCells d w s (m (xLoc d)) ∗ ∃ f, oCells d w s f) : sProp 𝕄) := by
    iintro ⟨Hx, Ho⟩
    isplitl [Hx]; · iexact Hx
    iexists _; iexact Ho
  rw [x_blocks, o_blocks, ← bigSep_sep']
  refine bigSep_mono fun w _ => ?_
  unfold tileGo
  rw [← bigSep_sep']
  exact bigSep_mono fun s _ => h w s

/-- and hands them back, the result at its value. -/
theorem dn0_elim (d : Dev nD) : (bigSep Finset.univ fun c : Fin ((K (F := F)).nCore 0) => (P m).dn 0 d c : sProp 𝕄)
    ⊢ iprop((xLoc d ↦{fullShare} m (xLoc d)) ∗ oLoc d ↦{fullShare} outOf (m (xLoc d))) := by
  refine BIBase.Entails.trans (Entails.of_eq (bigSep_tiles (F := F) (fun w => tileTd m d w))) ?_
  rw [x_blocks, o_blocks, ← bigSep_sep']
  refine Entails.of_eq (bigSep_congr fun w _ => ?_)
  unfold tileTd
  rw [bigSep_sep']

/-! ## The main program -/

/-- An array of the TensorCore, whole. -/
abbrev pts (d : Dev nD) (b : Ref sig .tc) (f : Buf (Elt F) ((SparseCore.T d : Thread nD τ).loc b)) : sProp 𝕄 := (SparseCore.T d : Thread nD τ).loc b ↦{fullShare} f

/-- The arrays of the main program. -/
theorem unscopedBufs_eq (d : Dev nD) (W : (b : Ref sig .tc) → Buf (Elt F) ((d.tc : Thread nD τ).loc b)) :
    (unscopedBufs d W : sProp 𝕄) = iprop(pts d main_arg0 (W main_arg0) ∗ pts d main_arg1 (W main_arg1) ∗ pts d main_arg2 (W main_arg2)
      ∗ pts d main_arg3 (W main_arg3) ∗ pts d main_arg4 (W main_arg4) ∗ pts d main_v0 (W main_v0)) := by
  unfold unscopedBufs
  rw [show (Finset.univ.filter fun b : Ref sig .tc => ¬ b.isScoped) = {main_arg0, main_arg1, main_arg2, main_arg3, main_arg4, main_v0} by decide,
    SparseCore.bigSep_insert' (by decide), SparseCore.bigSep_insert' (by decide), SparseCore.bigSep_insert' (by decide),
    SparseCore.bigSep_insert' (by decide), SparseCore.bigSep_insert' (by decide), bigSep_singleton]

/-- What the main program leaves: the arguments as they were, the result at its value. -/
abbrev FIN (d : Dev nD) : sProp 𝕄 :=
  iprop(pts d main_arg0 (m (xLoc d)) ∗ pts d main_arg1 (m ((SparseCore.T d).loc main_arg1)) ∗ pts d main_arg2 (m ((SparseCore.T d).loc main_arg2))
    ∗ pts d main_arg3 (m ((SparseCore.T d).loc main_arg3)) ∗ pts d main_arg4 (m ((SparseCore.T d).loc main_arg4)) ∗ pts d main_v0 (outOf (m (xLoc d))))

/-- The main program: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, H1, H2, H3, H4, Ho⟩, Hts, -⟩, -⟩
  iapply ((K (F := F)).wp_run (D (F := F)) 𝒱 (EH := EH) (P := P m) κ d 0) $$ [Hst Hx Ho Hb Hts H1 H2 H3 H4]
  isplitr; · iexact Hctx
  isplitl [Hst]; · iexact Hst
  isplitl [Hx Ho]
  · iapply (st0_intro m d)
    isplitl [Hx]; · iexact Hx
    iexact Ho
  iintro ⟨Hst, Hdn⟩
  ihave Hdn' := (dn0_elim m d) $$ Hdn
  icases Hdn' with ⟨Hx, Ho⟩
  imodintro
  isplitl [Hst]; · iexact Hst
  isplitr [Hb Hts]
  · isplitl [Hx]; · iexact Hx
    isplitl [H1]; · iexact H1
    isplitl [H2]; · iexact H2
    isplitl [H3]; · iexact H3
    isplitl [H4]; · iexact H4
    iexact Ho
  isplitl [Hb] <;> iassumption

/-- What the final memory is then known to hold. -/
def fq (d : Dev nD) (s' : Phys nD τ sig (Elt F)) : Prop :=
  s'.mem.mem (xLoc d) = m (xLoc d) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)
    ∧ s'.mem.mem ((SparseCore.T d).loc main_arg4) = m ((SparseCore.T d).loc main_arg4) ∧ s'.mem.mem (oLoc d) = outOf (m (xLoc d))

/-- An array held whole is what the memory holds. -/
theorem agree (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%h1, HSI, -⟩
  isplitr
  · ipureintro; exact funext fun i => h1 i (Finset.mem_univ i)
  · iexact HSI

/-- The resources left at the end say what the final memory holds. -/
theorem hfin (d : Dev nD) (s' : Phys nD τ sig (Elt F)) : iprop(FIN m d ∗ SI s') ⊢ (⌜fq m d s'⌝ : sProp 𝕄) := by
  iintro ⟨⟨Hx, H1, H2, H3, H4, Ho⟩, HSI⟩
  ihave H := (agree _ _ s') $$ [Hx HSI]
  · isplitl [Hx] <;> iassumption
  icases H with ⟨%h0, HSI⟩
  ihave H := (agree _ _ s') $$ [H1 HSI]
  · isplitl [H1] <;> iassumption
  icases H with ⟨%h1, HSI⟩
  ihave H := (agree _ _ s') $$ [H2 HSI]
  · isplitl [H2] <;> iassumption
  icases H with ⟨%h2, HSI⟩
  ihave H := (agree _ _ s') $$ [H3 HSI]
  · isplitl [H3] <;> iassumption
  icases H with ⟨%h3, HSI⟩
  ihave H := (agree _ _ s') $$ [H4 HSI]
  · isplitl [H4] <;> iassumption
  icases H with ⟨%h4, HSI⟩
  ihave H := (agree _ _ s') $$ [Ho HSI]
  · isplitl [Ho] <;> iassumption
  icases H with ⟨%h5, HSI⟩
  ipureintro; exact ⟨h0, h1, h2, h3, h4, h5⟩

/-! ## The run -/

/-- After the run: the arguments as they were, the result at its value, every semaphore at zero. -/
def QC : PUnit × MemSt nD τ sig (Elt F) → Prop := fun r => (∀ c : Dev nD,
  r.2.mem (xLoc c) = m (xLoc c) ∧ r.2.mem ((SparseCore.T c).loc main_arg1) = m ((SparseCore.T c).loc main_arg1)
    ∧ r.2.mem ((SparseCore.T c).loc main_arg2) = m ((SparseCore.T c).loc main_arg2) ∧ r.2.mem ((SparseCore.T c).loc main_arg3) = m ((SparseCore.T c).loc main_arg3)
    ∧ r.2.mem ((SparseCore.T c).loc main_arg4) = m ((SparseCore.T c).loc main_arg4) ∧ r.2.mem (oLoc c) = outOf (m (xLoc c))) ∧ r.2.sem = fun _ => 0

/-- The program's run. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdeal

end
-- ==== Proof.Reference.Ids.lean ====
/-
  The reference's segment ids when every entry of `batch_list` is 2048: row `p` belongs to segment `p / 2048`. Step by step, as `jnp.repeat` computes it:
  the segments' starts (a running sum), a one at each start (a scatter), the running sum of the ones less one, and the look-up in `arange`.
-/
module

public import proofs.«01_k».proof.Proof.Gen.ReferenceIdeal.Run
public import Idealize.ShloMosaic.Lib.Routing.Ops
public import Idealize.ShloMosaic.Lib.Routing.OpsSet
public import Idealize.ShloMosaic.Lib.Routing.OpsPair
public import Idealize.ShloMosaic.Lib.Routing.OpsOne
public import Idealize.ShloMosaic.Lib.Pipeline.Value
public import Idealize.ShloMosaic.Lib.ReduceAll
public import Idealize.ShloMosaic.Lib.WordCmp
public import Idealize.ShloMosaic.Lib.ValueIdxCore
public import Idealize.ShloMosaic.Lib.ValueIdxCoords
public import Idealize.ShloMosaic.Lib.IdealHost

@[expose] public section

noncomputable section

namespace Cert.Proof.Reference

open Cert.ReferenceIdeal Cert.ReferenceIdeal.Gen Cert.ReferenceIdeal.Value
open Idealize.ShloMosaic Idealize.ShloMosaic.StableHlo Idealize.ShloMosaic.Routing Idealize.ShloMosaic.ValueIdx

/-! ## On natural numbers -/

/-- The running sum of `0, 2048, 2048, …` is `2048 · j`. -/
theorem sum_starts (j : ℕ) : ((List.range (j + 1)).map fun i => if i = 0 then 0 else 2048).sum = 2048 * j := by
  induction j with
  | zero => rfl
  | succ j ih =>
    rw [List.range_succ, List.map_append, List.sum_append, ih]
    simp
    omega

/-- The multiples of 2048 up to `r` number `r / 2048 + 1`. -/
theorem sum_marks (r : ℕ) : ((List.range (r + 1)).map fun x => if 2048 ∣ x then 1 else 0).sum = r / 2048 + 1 := by
  induction r with
  | zero => rfl
  | succ r ih =>
    rw [List.range_succ, List.map_append, List.sum_append, ih, Nat.succ_div]
    simp
    omega

/-- Below 32768, the number of `i < 16` with `2048 · i = x` is one at a multiple of 2048, else none. -/
theorem count_marks (x : ℕ) (hx : x < 32768) : Nat.count (fun i => 2048 * i = x) 16 = if 2048 ∣ x then 1 else 0 := by
  rw [Nat.count_eq_card_filter_range]
  split
  · next h =>
    obtain ⟨k, rfl⟩ := h
    rw [Finset.card_eq_one]
    refine ⟨k, ?_⟩
    ext i
    simp only [Finset.mem_filter, Finset.mem_range, Finset.mem_singleton]
    omega
  · next h =>
    rw [Finset.card_eq_zero, Finset.filter_eq_empty_iff]
    intro i _ e
    exact h ⟨i, e.symm⟩

/-! ## On words -/

/-- A running count kept as a word: from `z`, one more for each member of the list that hits. -/
theorem foldl_hits {ι : Type} (hit : ι → Prop) [DecidablePred hit] (l : List ι) (z : ℕ) :
    l.foldl (fun a n => if hit n then IntOp.addi a 1#32 else a) (BitVec.ofNat 32 z) = BitVec.ofNat 32 (z + l.countP fun n => decide (hit n)) := by
  induction l generalizing z with
  | nil => rfl
  | cons n l ih =>
    have e : (if hit n then IntOp.addi (BitVec.ofNat 32 z) 1#32 else BitVec.ofNat 32 z) = BitVec.ofNat 32 (z + if hit n then 1 else 0) := by
      split
      · exact (BitVec.ofNat_add z 1).symm
      · rfl
    rw [List.foldl_cons, e, ih, List.countP_cons]
    simp only [decide_eq_true_eq]
    congr 1
    omega

/-- jnp's wrap of an index below 2³¹ leaves it. -/
theorem wrap_small (c : BitVec 32) (k : ℕ) (hk : k < 2 ^ 31) :
    Scalar.select (IntOp.cmpi .slt (BitVec.ofNat 32 k) 0#32) c (BitVec.ofNat 32 k) = BitVec.ofNat 32 k :=
  wrap_of_lt _ _ (by rw [BitVec.toNat_ofNat, Nat.mod_eq_of_lt (by omega)]; exact hk)

/-- A word that holds a number up to 15 is in the range `jnp.take` tests for. -/
theorem inRange (k : ℕ) (hk : k ≤ 15) :
    IntOp.andi (IntOp.cmpi .sge (BitVec.ofNat 32 k) 0#32) (IntOp.cmpi .sle (BitVec.ofNat 32 k) 15#32) = 1#1 := by
  interval_cases k <;> decide

/-! ## The scatters -/

/-- Update `i` of the reference's second scatter starts at its index word, read signed. -/
theorem marks_start (idx : IVec S16x1 32) (i : Fin 16) :
    scatter_S32768_S16x1_S16_n_0_0_1.start (ix1 i) idx 0 = (idx (ix2 i (0 : Fin 1))).toInt := by
  unfold ScatterDims.start
  have hm : (0 : Fin 1) ∈ scatter_S32768_S16x1_S16_n_0_0_1.scatterDimsToOperandDims := List.mem_singleton.2 rfl
  refine (dif_pos hm).trans (congrArg (fun q => (idx q).toInt) (funext fun b => ?_))
  match b with
  | ⟨0, _⟩ => rfl
  | ⟨1, _⟩ => rfl

/-- The reference's second scatter, a one added at each of sixteen indices: at `x`, how many of them are `x`. -/
theorem marks_at (x0 : IVec S32768 32) (h0 : ∀ i, x0 i = 0#32) (idx : IVec S16x1 32) (upd : IVec S16 32) (hu : ∀ i, upd i = 1#32)
    (gi : ℕ → ℕ) (hg : ∀ i : Fin 16, idx (ix2 i (0 : Fin 1)) = BitVec.ofNat 32 (gi i.val)) (h31 : ∀ i : Fin 16, gi i.val < 2 ^ 31) (x : Fin 32768) :
    Host.scatter scatter_S32768_S16x1_S16_n_0_0_1 IntOp.addi x0 idx upd (ix1 x) = BitVec.ofNat 32 (Nat.count (fun i => gi i = x.val) 16) := by
  have hl : ∀ n : Fin (shape1 16).numel,
      scatter_S32768_S16x1_S16_n_0_0_1.resultIdx? ((shape1 16).rowMajor.symm n) idx = some (ix1 x) ↔ gi n.val = x.val := by
    intro n
    rw [symm1, resultIdx?_ix1, marks_start, hg, Predicate.toInt_ofNat_small _ (h31 _)]
    show (gi n.val : ℤ) + ((0 : ℕ) : ℤ) = _ ↔ _
    omega
  rw [scatter_at, h0]
  simp only [hu]
  have e : (fun (a : BitVec 32) (n : Fin S16.numel) =>
      if scatter_S32768_S16x1_S16_n_0_0_1.resultIdx? (S16.rowMajor.symm n) idx = some (ix1 x) then IntOp.addi a 1#32 else a)
      = fun a n => if gi n.val = x.val then IntOp.addi a 1#32 else a := by
    funext a n
    exact if_congr (hl n) rfl rfl
  rw [e]
  refine (foldl_hits (fun n : Fin S16.numel => gi n.val = x.val) _ 0).trans ?_
  rw [Nat.zero_add, countP_finRange _ (fun i => gi i = x.val), numel1]

/-! ## The reference's steps -/

variable {F : FTy → Type} [FloatOps F]
variable (V : Valuation τ sig (Elt F))

/-- Every entry of `batch_list` is 2048. -/
def Uniform : Prop := ∀ i : Fin 16, (V (Proc.devRef .tc main_arg1) : IVec S16 32) (ix1 i) = 2048#32

variable {V}

/-- `batch_list` turned by one place holds 2048 everywhere too. -/
theorem rolled_at (b : IVec S16 32) (hb : ∀ i : Fin 16, b (ix1 i) = 2048#32) (i : Fin 16) :
    concatenate S16 0 [⟨S1, extractStridedSlice S1 ![15] b slices_S16_S1_15⟩, ⟨S15, extractStridedSlice S15 ![0] b slices_S16_S15_0⟩]
      concatenates_S1_S15_S16_d0 (ix1 i) = 2048#32 := by
  by_cases h : i.val = 0
  · rw [concatenate_pair_apply_left (t := S16) 0 _ _ concatenates_S1_S15_S16_d0 (ix1 i) rfl (ix1 (0 : Fin 1)) (fun b => by
      match b with
      | ⟨0, _⟩ => exact h.symm)]
    rw [slice1 15 b _ (0 : Fin 1) (by decide)]
    exact hb _
  · rw [concatenate_pair_apply_right (t := S16) 0 _ _ concatenates_S1_S15_S16_d0 (ix1 i) rfl rfl (ix1 (⟨i.val - 1, by omega⟩ : Fin 15)) (fun b hb' => by
      match b with
      | ⟨0, _⟩ => exact (hb' rfl).elim) (by show i.val - 1 + 1 = i.val; omega)]
    rw [slice1 0 b _ (⟨i.val - 1, by omega⟩ : Fin 15) (by show 0 + (i.val - 1) < 16; omega)]
    exact hb _

/-- Segment `j` starts at row `2048 · j`. -/
theorem starts_at (h : Uniform V) (j : Fin 16) : (res_main_v4 V : IVec S16 32) (ix1 j) = BitVec.ofNat 32 (2048 * j.val) := by
  unfold res_main_v4
  refine (cumsum1 (N := 16) (Nm1 := 15) rfl _ (fun i => if i = 0 then 0 else 2048) (fun i => ?_) _ ?_ _ _ j).trans (by rw [sum_starts])
  · refine (scatter_one scatter_S16_S1_S__n_0_0_0 rfl rfl _ (broadcastInDim S1 ![] bcast_S_S1 (constantI S_ 32 0#32)) _ (0 : Fin 16) (by decide)
      (bc0 _ _ _) i).trans ?_
    by_cases e : i = 0
    · rw [if_pos e, e]; rfl
    · rw [if_neg e]
      exact (rolled_at _ h i).trans (congrArg (BitVec.ofNat 32) (if_neg fun q : i.val = 0 => e (Fin.ext q)).symm)
  · exact bc0 _ _ _

/-- The marks' running sum less one at row `p`: its segment. -/
theorem ranks_at (h : Uniform V) (p : Fin 32768) : (res_main_v16 V : IVec S32768 32) (ix1 p) = BitVec.ofNat 32 (p.val / 2048) := by
  unfold res_main_v16
  refine (congrArg₂ IntOp.subi (cumsum1 (N := 32768) (Nm1 := 32767) rfl _ (fun x => if 2048 ∣ x then 1 else 0) (fun x => ?_) _ (bc0 _ _ _) _ _ p)
    (bc0 _ _ _)).trans ?_
  · rw [marks_at _ (fun i => bc0 _ _ _) _ _ (fun i => bc0 _ _ _) (fun i => 2048 * i) (fun i => ?_) (fun i => by have := i.isLt; omega) x,
      count_marks _ x.isLt]
    rw [bcCol (n := 16)]
    show Scalar.select (IntOp.cmpi .slt ((res_main_v4 V : IVec S16 32) (ix1 i)) (broadcastInDim S16 ![] bcast_S_S16 (constantI S_ 32 0#32) (ix1 i))) _
      ((res_main_v4 V : IVec S16 32) (ix1 i)) = _
    rw [starts_at h, bc0]
    exact wrap_small _ _ (by have := i.isLt; omega)
  · rw [sum_marks]
    show BitVec.ofNat 32 (p.val / 2048 + 1) - 1#32 = _
    rw [BitVec.ofNat_add]
    exact BitVec.add_sub_cancel _ _

/-- A column of words that hold numbers up to 15, wrapped as jnp wraps an index, is the column itself. -/
theorem wrapCol_at (v : IVec S32768 32) (k : ℕ → ℕ) (hv : ∀ p : Fin 32768, v (ix1 p) = BitVec.ofNat 32 (k p.val)) (hk : ∀ p : Fin 32768, k p.val ≤ 15)
    (p : Fin 32768) :
    broadcastInDim S32768x1 ![0] bcast_S32768_S32768x1_0 (select (cmpi .slt v (broadcastInDim S32768 ![] bcast_S_S32768 (constantI S_ 32 0#32)))
      (addi v (broadcastInDim S32768 ![] bcast_S_S32768 (constantI S_ 32 16#32))) v) (ix2 p (0 : Fin 1)) = BitVec.ofNat 32 (k p.val) := by
  rw [bcCol (n := 32768)]
  show Scalar.select (IntOp.cmpi .slt (v (ix1 p)) (broadcastInDim S32768 ![] bcast_S_S32768 (constantI S_ 32 0#32) (ix1 p))) _ (v (ix1 p)) = _
  rw [hv, bc0]
  exact wrap_small _ _ (by have := hk p; omega)

/-- A column of words that hold numbers up to 15 is in range at every row. -/
theorem mask_at (v : IVec S32768x1 32) (k : ℕ → ℕ) (hv : ∀ p : Fin 32768, v (ix2 p (0 : Fin 1)) = BitVec.ofNat 32 (k p.val))
    (hk : ∀ p : Fin 32768, k p.val ≤ 15) (p : Fin 32768) :
    Host.reduce IntOp.andi (andi (cmpi .sge v (broadcastInDim S32768x1 ![] bcast_S_S32768x1 (constantI S_ 32 0#32)))
      (cmpi .sle v (broadcastInDim S32768x1 ![0, 1] bcast_S1x1_S32768x1_0_1 (broadcastInDim S1x1 ![1] bcast_S1_S1x1_1 (constantI S1 32 15#32)))))
      (constantI S_ 1 1#1) reducesTo_S32768x1_S32768_d1 h_S_ (ix1 p) = 1#1 := by
  refine Host.reduce_andi_one _ _ _ _ _ rfl fun i => ?_
  obtain ⟨q, rfl⟩ : ∃ q : Fin 32768, i = ix2 q (0 : Fin 1) :=
    ⟨i 0, (eq_ix2 i).trans (congrArg (ix2 (i 0)) (Subsingleton.elim (α := Fin 1) _ _))⟩
  show IntOp.andi (IntOp.cmpi .sge (v (ix2 q (0 : Fin 1))) (broadcastInDim S32768x1 ![] bcast_S_S32768x1 (constantI S_ 32 0#32) _))
    (IntOp.cmpi .sle (v (ix2 q (0 : Fin 1))) 15#32) = 1#1
  rw [hv q, bc0]
  exact inRange _ (hk q)

/-- A selection at an index where its condition holds. -/
theorem select_at {α : Type} {s : Shape} (c : IVec s 1) (a b : s.Idx → α) (j : s.Idx) (h : c j = 1#1) : select c a b j = a j := by
  show Scalar.select (c j) (a j) (b j) = a j
  rw [h]
  rfl

/-- A row's segment is below 16. -/
theorem seg_le (p : Fin 32768) : p.val / 2048 ≤ 15 := by have := p.isLt; omega

/-- Row `p`'s segment id is `p / 2048`. -/
theorem ids_at (h : Uniform V) (p : Fin 32768) : (res_main_v17 V : IVec S32768 32) (ix1 p) = BitVec.ofNat 32 (p.val / 2048) := by
  have hc : ∀ p : Fin 32768, (res_main_call3_v5 V : IVec S32768x1 32) (ix2 p (0 : Fin 1)) = BitVec.ofNat 32 (p.val / 2048) := fun p => by
    unfold res_main_call3_v5
    exact wrapCol_at _ (· / 2048) (ranks_at h) seg_le p
  unfold res_main_v17
  refine (select_at _ _ _ _ (mask_at (res_main_call3_v5 V) (· / 2048) hc seg_le p)).trans ?_
  exact (gather_take1 gather_S16_S32768x1_S32768_n_0_n_n_0_1_1 rfl rfl rfl rfl (iotaInDim S16 32 0) (res_main_call3_v5 V) p ⟨p.val / 2048, by have := seg_le p; omega⟩ (hc p) (by decide)).trans rfl

/-- The look-up of the segments' maxima reads row `p / 2048`. -/
theorem look_at (h : Uniform V) (p : Fin 32768) : (res_main_call6_v5 V : IVec S32768x1 32) (ix2 p (0 : Fin 1)) = BitVec.ofNat 32 (p.val / 2048) := by
  unfold res_main_call6_v5
  exact wrapCol_at _ (· / 2048) (ids_at h) seg_le p

end Cert.Proof.Reference

end
-- ==== Proof.Reference.Value.lean ====
/-
  The reference's result at the ideal values when every entry of `batch_list` is 2048: each entry divided by the larger of 1e-12's value
  and the largest magnitude of its column over the 2048 rows of its segment.
-/
module

public import proofs.«01_k».proof.Proof.Reference.Ids
public import Idealize.ShloMosaic.Lib.Routing.OpsSearch
public import Idealize.ShloMosaic.PureOps.Ideal.Laws
public import Mathlib.Data.Finset.Fold

@[expose] public section

noncomputable section

namespace Cert.Proof.Reference

open Cert.ReferenceIdeal Cert.ReferenceIdeal.Gen Cert.ReferenceIdeal.Value
open Idealize.ShloMosaic Idealize.ShloMosaic.StableHlo Idealize.ShloMosaic.Routing Idealize.ShloMosaic.ValueIdx

/-- The value the programs' 1e-12 denotes. -/
def eps : EReal := Ideal.ofBits .f32 0x2B8CBCCC#32

/-- It is positive. -/
theorem eps_pos : 0 < eps := by
  unfold eps
  simp [Ideal.ofBits, Ideal.ieee]
  refine EReal.mul_pos ?_ ?_
  · exact_mod_cast (by norm_num : (0 : ℝ) < 9223372)
  · exact_mod_cast (by positivity : (0 : ℝ) < (2 ^ 63)⁻¹)

/-- The pattern of −∞ denotes the least extended real. -/
theorem ofBits_ninf : Ideal.ofBits .f32 0xFF800000#32 = ⊥ := by
  simp [Ideal.ofBits, Ideal.ieee]

/-- A magnitude. -/
abbrev mag (x : EReal) : EReal := max x (-x)

variable {V : Valuation τ sig (Elt Ideal)}

/-- The tensor. -/
abbrev X (V : Valuation τ sig (Elt Ideal)) : S32768x512.Idx → EReal := (V (Proc.devRef .tc main_arg0) : FVec Ideal S32768x512 .f32)

/-- The segments' largest magnitudes, before 1e-12 bounds them below. -/
abbrev maxima (V : Valuation τ sig (Elt Ideal)) : S16x512.Idx → EReal := (res_main_v28 V : FVec Ideal S16x512 .f32)

/-- A selection at an index, from its three operands there. -/
theorem select_eq {α : Type} {s : Shape} {c : IVec s 1} {a b : s.Idx → α} {j : s.Idx} {c' : BitVec 1} {a' b' : α} (hc : c j = c') (ha : a j = a')
    (hb : b j = b') : select c a b j = Scalar.select c' a' b' := by
  subst hc ha hb
  rfl

/-- The index over `(s, y)` of the reduction over rows, at row `k`. -/
theorem lift_eq (h : S16x32768x512.Reduces [1] S16x512) (s : Fin 16) (y : Fin 512) (k : Fin 32768) : h.lift (ix2 s y) k = ix3 s k y := by
  funext c
  apply Fin.ext
  match c with
  | ⟨0, _⟩ => rfl
  | ⟨1, _⟩ => rfl
  | ⟨2, _⟩ => rfl

/-- A row mask of each segment spread over the columns. -/
theorem spread_at (mk : IVec S16x32768 1) (s : Fin 16) (k : Fin 32768) (y : Fin 512) :
    broadcastInDim S16x32768x512 ![0, 1, 2] bcast_S16x32768x1_S16x32768x512_0_1_2 (broadcastInDim S16x32768x1 ![0, 1] bcast_S16x32768_S16x32768x1_0_1 mk)
      (ix3 s k y) = mk (ix2 s k) := by
  refine (broadcastInDim_apply _ _ _ _ (ix3 s k (0 : Fin 1)) fun e => ?_).trans (broadcastInDim_apply _ _ _ _ (ix2 s k) fun e => ?_)
  · match e with
    | ⟨0, _⟩ => rfl
    | ⟨1, _⟩ => rfl
    | ⟨2, _⟩ => rfl
  · match e with
    | ⟨0, _⟩ => rfl
    | ⟨1, _⟩ => rfl

/-- The reduced operand: per segment, the magnitudes of its rows, and −∞ at the others. -/
def masked (V : Valuation τ sig (Elt Ideal)) : FVec Ideal S16x32768x512 .f32 :=
  select (broadcastInDim S16x32768x512 ![0, 1, 2] bcast_S16x32768x1_S16x32768x512_0_1_2 (broadcastInDim S16x32768x1 ![0, 1] bcast_S16x32768_S16x32768x1_0_1
      (cmpi .eq (broadcastInDim S16x32768 ![0, 1] bcast_S1x32768_S16x32768_0_1 (broadcastInDim S1x32768 ![1] bcast_S32768_S1x32768_1 (res_main_v17 V)))
        (broadcastInDim S16x32768 ![0, 1] bcast_S16x1_S16x32768_0_1 (broadcastInDim S16x1 ![0] bcast_S16_S16x1_0 (iotaInDim S16 32 0))))))
      (broadcastInDim S16x32768x512 ![0, 1, 2] bcast_S1x32768x512_S16x32768x512_0_1_2 (broadcastInDim S1x32768x512 ![1, 2] bcast_S32768x512_S1x32768x512_1_2
        (Host.absf (X V : FVec Ideal S32768x512 .f32))))
      (broadcastInDim S16x32768x512 ![] bcast_S_S16x32768x512 (id (constant S_ .f32 0xFF800000#32)))

/-- The reduced operand at segment `s`, row `k`, column `y`: the entry's magnitude if the row is the segment's, else −∞. -/
theorem masked_at (h : Uniform V) (s : Fin 16) (k : Fin 32768) (y : Fin 512) :
    masked V (ix3 s k y) = if k.val / 2048 = s.val then mag (X V (ix2 k y)) else ⊥ := by
  unfold masked
  have hc : cmpi .eq (broadcastInDim S16x32768 ![0, 1] bcast_S1x32768_S16x32768_0_1 (broadcastInDim S1x32768 ![1] bcast_S32768_S1x32768_1 (res_main_v17 V)))
      (broadcastInDim S16x32768 ![0, 1] bcast_S16x1_S16x32768_0_1 (broadcastInDim S16x1 ![0] bcast_S16_S16x1_0 (iotaInDim S16 32 0))) (ix2 s k)
      = IntOp.cmpi .eq (BitVec.ofNat 32 (k.val / 2048)) (BitVec.ofNat 32 s.val) :=
    congrArg₂ (IntOp.cmpi .eq) ((bcCols bcast_S32768_S1x32768_1 bcast_S1x32768_S16x32768_0_1 (res_main_v17 V) s k).trans (ids_at h k))
      (bcRows bcast_S16_S16x1_0 bcast_S16x1_S16x32768_0_1 (iotaInDim S16 32 0) s k)
  refine (select_eq ((spread_at _ s k y).trans hc) (bcStack bcast_S32768x512_S1x32768x512_1_2 bcast_S1x32768x512_S16x32768x512_0_1_2 _ s k y)
    (bc0 _ _ _)).trans ?_
  show Scalar.select (IntOp.cmpi .eq (BitVec.ofNat 32 (k.val / 2048)) (BitVec.ofNat 32 s.val)) (mag (X V (ix2 k y))) (Ideal.ofBits .f32 0xFF800000#32) = _
  rw [ofBits_ninf, WordCmp.cmpi_eq_ofNat (by have := k.isLt; omega) (by have := s.isLt; omega), WordCmp.select_decide]

/-- The maxima are the reduction of the masked operand over the rows. -/
theorem maxima_eq : maxima V = Host.reduce FloatOps.maximumf (masked V) (constant (F := Ideal) S_ .f32 0xFF800000#32) reducesTo_S16x32768x512_S16x512_d1 h_S_ := by
  unfold maxima res_main_v28 masked
  rfl

/-- A maximum over the middle axis from `init`, at `(s, y)`. -/
theorem rowMax_at (x : FVec Ideal S16x32768x512 .f32) (init : FVec Ideal S_ .f32) (hr : S16x32768x512.Reduces [1] S16x512) (s : Fin 16) (y : Fin 512) :
    Host.reduce FloatOps.maximumf x init reducesTo_S16x32768x512_S16x512_d1 h_S_ (ix2 s y)
      = (Finset.univ : Finset (Fin 32768)).fold max (init (Shape.Idx.first h_S_)) fun k => x (ix3 s k y) := by
  have e : (fun k : Fin 32768 => x (ix3 s k y)) = x ∘ hr.lift (ix2 s y) := funext fun k => congrArg x (lift_eq hr s y k).symm
  rw [e]
  exact Host.reduce_eq_fold_single FloatOps.maximumf x init reducesTo_S16x32768x512_S16x512_d1 hr h_S_ (ix2 s y)

/-- The segment's largest magnitude, by its upper bounds. -/
theorem maxima_le (h : Uniform V) (s : Fin 16) (y : Fin 512) (c : EReal) :
    maxima V (ix2 s y) ≤ c ↔ ∀ k : Fin 32768, k.val / 2048 = s.val → mag (X V (ix2 k y)) ≤ c := by
  have hr : S16x32768x512.Reduces [1] S16x512 := by decide
  have hi : constant (F := Ideal) S_ .f32 0xFF800000#32 (Shape.Idx.first h_S_) = ⊥ := ofBits_ninf
  rw [maxima_eq, rowMax_at _ _ hr, hi, Finset.fold_max_le]
  simp only [bot_le, true_and, Finset.mem_univ, forall_true_left]
  refine forall_congr' fun k => ?_
  rw [masked_at h s k y]
  split
  · next e => simp only [e, forall_true_left]
  · next e => simp only [e, bot_le, false_imp_iff]

/-- The divisor of an entry: its segment's largest magnitude, or 1e-12's value if that is larger. -/
def divisor (V : Valuation τ sig (Elt Ideal)) (s : Fin 16) (y : Fin 512) : EReal := max (maxima V (ix2 s y)) eps

/-- `where(m <= 1e-12, 1e-12, m)` is the larger of the two. -/
theorem floor_eq (m : EReal) : Scalar.select (FloatOps.cmpf (F := Ideal) (φ := .f32) .ole m eps) eps m = max m eps := by
  show Scalar.select (Ideal.cmp .ole m eps) eps m = max m eps
  by_cases e : m ≤ eps
  · rw [max_eq_right e]
    simp [Ideal.cmp, Scalar.select, e]
  · rw [max_eq_left (le_of_not_ge e)]
    simp [Ideal.cmp, Scalar.select, e]

/-- The bounded maxima looked up by a column of segment ids, at row `p`, column `y`. -/
theorem lookup_at (m : FVec Ideal S16x512 .f32) (v : IVec S32768x1 32) (hv : ∀ p : Fin 32768, v (ix2 p (0 : Fin 1)) = BitVec.ofNat 32 (p.val / 2048))
    (p : Fin 32768) (y : Fin 512) :
    Host.gather gather_S16x512_S32768x1_S32768x512_1_0_n_n_0_1_1512
      (select (cmpf .ole m (broadcastInDim S16x512 ![] bcast_S_S16x512 (constant S_ .f32 0x2B8CBCCC#32)))
        (broadcastInDim S16x512 ![] bcast_S_S16x512 (constant S_ .f32 0x2B8CBCCC#32)) m) v (ix2 p y)
      = max (m (ix2 (⟨p.val / 2048, by have := seg_le p; omega⟩ : Fin 16) y)) eps := by
  rw [gather_row gather_S16x512_S32768x1_S32768x512_1_0_n_n_0_1_1512 rfl rfl rfl rfl rfl _ v p y
    (⟨p.val / 2048, by have := seg_le p; omega⟩ : Fin 16) (hv p) (by decide)]
  have hb := bc0 bcast_S_S16x512 (constant (F := Ideal) S_ .f32 0x2B8CBCCC#32) (ix2 (⟨p.val / 2048, by have := seg_le p; omega⟩ : Fin 16) y)
  refine (select_eq (congrArg (FloatOps.cmpf (F := Ideal) (φ := .f32) .ole _) hb) hb rfl).trans ?_
  exact floor_eq _

/-- A mask of the rows, one at row `p`, is one at each column of the row. -/
theorem rowMask_at (b : IVec S32768 1) (p : Fin 32768) (y : Fin 512) (hb : b (ix1 p) = 1#1) :
    broadcastInDim S32768x512 ![0] bcast_S32768_S32768x512_0 b (ix2 p y) = 1#1 := by
  refine (broadcastInDim_apply _ _ _ (ix2 p y) (ix1 p) fun e => ?_).trans hb
  match e with
  | ⟨0, _⟩ => exact (if_neg (by decide : ¬ (32768 : ℕ) = 1)).symm

/-- The reference's result at row `p`, column `y`. -/
theorem result_at (h : Uniform V) (p : Fin 32768) (y : Fin 512) :
    (Host.divf (X V : FVec Ideal S32768x512 .f32) (select (broadcastInDim S32768x512 ![0] bcast_S32768_S32768x512_0
      (Host.reduce IntOp.andi (andi (cmpi .sge (res_main_call6_v5 V) (broadcastInDim S32768x1 ![] bcast_S_S32768x1 (constantI S_ 32 0#32)))
        (cmpi .sle (res_main_call6_v5 V) (broadcastInDim S32768x1 ![0, 1] bcast_S1x1_S32768x1_0_1 (broadcastInDim S1x1 ![1] bcast_S1_S1x1_1 (constantI S1 32 15#32)))))
        (constantI S_ 1 1#1) reducesTo_S32768x1_S32768_d1 h_S_))
      (Host.gather gather_S16x512_S32768x1_S32768x512_1_0_n_n_0_1_1512
        (select (cmpf .ole (res_main_v28 V) (broadcastInDim S16x512 ![] bcast_S_S16x512 (constant S_ .f32 0x2B8CBCCC#32)))
          (broadcastInDim S16x512 ![] bcast_S_S16x512 (constant S_ .f32 0x2B8CBCCC#32)) (res_main_v28 V)) (res_main_call6_v5 V))
      (broadcastInDim S32768x512 ![] bcast_S_S32768x512 (constant S_ .f32 0x7FC00000#32))) : FVec Ideal S32768x512 .f32) (ix2 p y)
      = Ideal.div (X V (ix2 p y)) (divisor V ⟨p.val / 2048, by have := seg_le p; omega⟩ y) := by
  have hm := mask_at (res_main_call6_v5 V) (· / 2048) (look_at h) seg_le p
  rw [hostDivf_apply, select_at _ _ _ _ (rowMask_at _ p y hm), lookup_at _ _ (look_at h) p y]
  rfl

end Cert.Proof.Reference

end
-- ==== Proof.Match.lean ====
/-
  The two programs' results agree at the ideal values: an entry times the reciprocal of `max(m, 1e-12)`, as the kernel computes it, is the entry
  divided by `where(m <= 1e-12, 1e-12, m)`, as the reference does, `m` the largest magnitude of the entry's column over its segment's 2048 rows.
-/
module

public import proofs.«01_k».proof.Proof.KernelIdeal.Tile
public import proofs.«01_k».proof.Proof.Reference.Value
public import Idealize.ShloMosaic.Lib.ValueLayout

@[expose] public section

noncomputable section

namespace Cert.Proof.Match

open Cert.KernelIdeal Cert.KernelIdeal.Gen Cert.Proof.KernelIdeal Cert.Proof.Reference
open Idealize.ShloMosaic Idealize.ShloMosaic.ValueIdx

/-- The first loop's start is zero. -/
theorem start_at (q : Fin 16) : k0_pay1 (F := Ideal) (ix1 q) = 0 := Ideal.ofBits_zero_f32

/-- A step of the first loop takes the larger of what it holds and the row's magnitude. -/
theorem step_at (a : FVec Ideal S16 .f32) (r : FVec Ideal S1x16 .f32) (q : Fin 16) :
    k0_pay2 a r (ix1 q) = max (a (ix1 q)) (mag (r (ix2 (0 : Fin 1) q))) := by
  have e := shapeCast_1a_a_apply r shapeCasts_S1x16_S16 q
  show max (a (ix1 q)) (mag (shapeCast S16 r shapeCasts_S1x16_S16 (ix1 q))) = _
  rw [e]

/-- The second loop's row: each entry divided by the larger of its column's magnitude and 1e-12's value. -/
theorem scale_at (a : FVec Ideal S16 .f32) (r : FVec Ideal S1x16 .f32) (q : Fin 16) :
    k0_pay3 a r (ix2 (0 : Fin 1) q) = Ideal.div (r (ix2 (0 : Fin 1) q)) (max (a (ix1 q)) eps) := by
  have e := shapeCast_1a_a_apply r shapeCasts_S1x16_S16 q
  unfold k0_pay3
  refine (shapeCast_a_1a_apply _ shapeCasts_S16_S1x16 (0 : Fin 1) q).trans ?_
  show shapeCast S16 r shapeCasts_S1x16_S16 (ix1 q) * Ideal.div (Ideal.ofBits .f32 0x3F800000#32) (max (a (ix1 q)) eps) = _
  rw [e, Ideal.ofBits_one_f32]
  exact Ideal.mul_one_div (ne_of_gt (lt_of_lt_of_le eps_pos (le_max_right _ _)))

/-- The first loop's fold after `n` rows, by its upper bounds. -/
theorem fold_le (g : S2048x16.Idx → EReal) (q : Fin 16) (c : EReal) (n : ℕ) (hn : n ≤ 2048) :
    maxTo (F := Ideal) g n (ix1 q) ≤ c ↔ 0 ≤ c ∧ ∀ k : Fin 2048, k.val < n → mag (g (ix2 k q)) ≤ c := by
  induction n with
  | zero =>
    rw [maxTo, start_at]
    exact ⟨fun h => ⟨h, fun k hk => (Nat.not_lt_zero _ hk).elim⟩, fun h => h.1⟩
  | succ n ih =>
    rw [maxTo, dif_pos (by omega), step_at, max_le_iff, ih (by omega)]
    constructor
    · rintro ⟨⟨h0, hk⟩, hn'⟩
      refine ⟨h0, fun k h => ?_⟩
      rcases Nat.lt_succ_iff_lt_or_eq.1 h with h | h
      · exact hk k h
      · have e : k = (⟨n, by omega⟩ : Fin 2048) := Fin.ext h
        rw [e]
        exact hn'
    · rintro ⟨h0, hk⟩
      exact ⟨⟨h0, fun k h => hk k (by omega)⟩, hk ⟨n, by omega⟩ (Nat.lt_succ_self n)⟩

/-- The kernel's divisor is the reference's: its fold starts at zero and not at −∞, which 1e-12's bound hides. -/
theorem divisor_eq (x : S32768x512.Idx → EReal) (m : EReal) (s : Fin 16) (w : Fin 32) (q : Fin 16) (y : Fin 512) (hy : y.val = 16 * w.val + q.val)
    (hm : ∀ c, m ≤ c ↔ ∀ k : Fin 32768, k.val / 2048 = s.val → mag (x (ix2 k y)) ≤ c) :
    max (maxTo (F := Ideal) (blk (F := Ideal) x s w) 2048 (ix1 q)) eps = max m eps := by
  have hb : ∀ k : Fin 2048, blk (F := Ideal) x s w (ix2 k q) = x (ix2 (⟨2048 * s.val + k.val, by omega⟩ : Fin 32768) y) := fun k => by
    have e : y = (⟨16 * w.val + q.val, by omega⟩ : Fin 512) := Fin.ext hy
    rw [e]
    rfl
  refine eq_of_forall_ge_iff fun c => ?_
  rw [max_le_iff, max_le_iff, fold_le _ q c 2048 le_rfl, hm]
  constructor
  · rintro ⟨⟨_, h⟩, he⟩
    refine ⟨fun k hk => ?_, he⟩
    have e := h ⟨k.val - 2048 * s.val, by omega⟩ (by show k.val - 2048 * s.val < 2048; omega)
    rw [hb] at e
    have ek : (⟨2048 * s.val + (k.val - 2048 * s.val), by omega⟩ : Fin 32768) = k := Fin.ext (by show 2048 * s.val + (k.val - 2048 * s.val) = k.val; omega)
    rw [ek] at e
    exact e
  · rintro ⟨h, he⟩
    refine ⟨⟨le_trans (le_of_lt eps_pos) he, fun k _ => ?_⟩, he⟩
    rw [hb]
    exact h _ (by show (2048 * s.val + k.val) / 2048 = s.val; omega)

/-- The kernel's result at row `p`, column `y`. -/
theorem outOf_at (x : S32768x512.Idx → EReal) (p : Fin 32768) (y : Fin 512) (m : EReal)
    (hm : ∀ c, m ≤ c ↔ ∀ k : Fin 32768, k.val / 2048 = p.val / 2048 → mag (x (ix2 k y)) ≤ c) :
    outOf (F := Ideal) x (ix2 p y) = Ideal.div (x (ix2 p y)) (max m eps) := by
  have hs : segOf (ix2 p y) = (⟨p.val / 2048, by omega⟩ : Fin 16) := rfl
  have hw : colOf (ix2 p y) = (⟨y.val / 16, by omega⟩ : Fin 32) := rfl
  have hz : placeOf (ix2 p y) = ix2 (⟨p.val % 2048, by omega⟩ : Fin 2048) (⟨y.val % 16, by omega⟩ : Fin 16) := rfl
  rw [outOf, hs, hw, hz]
  refine (scale_at _ _ (⟨y.val % 16, by omega⟩ : Fin 16)).trans ?_
  rw [divisor_eq x m _ _ _ y (by show y.val = 16 * (y.val / 16) + y.val % 16; omega) hm]
  have ex : rowOf (blk (F := Ideal) x ⟨p.val / 2048, by omega⟩ ⟨y.val / 16, by omega⟩) (⟨p.val % 2048, by omega⟩ : Fin 2048)
      (ix2 (0 : Fin 1) (⟨y.val % 16, by omega⟩ : Fin 16)) = x (ix2 p y) := by
    have ep : (⟨2048 * (p.val / 2048) + p.val % 2048, by omega⟩ : Fin 32768) = p := Fin.ext (by show 2048 * (p.val / 2048) + p.val % 2048 = p.val; omega)
    have ey : (⟨16 * (y.val / 16) + y.val % 16, by omega⟩ : Fin 512) = y := Fin.ext (by show 16 * (y.val / 16) + y.val % 16 = y.val; omega)
    show x (ix2 (⟨2048 * (p.val / 2048) + p.val % 2048, _⟩ : Fin 32768) (⟨16 * (y.val / 16) + y.val % 16, _⟩ : Fin 512)) = _
    rw [ep, ey]
  exact congrArg (fun a => Ideal.div a (max m eps)) ex

end Cert.Proof.Match

end
-- ==== Proof.lean ====
/-
  The certificate: the kernel's, its ideal instance's and the reference's runs leave the arguments unchanged and every semaphore counter at zero,
  and kernel and reference compute the same function over the extended reals when every segment has 2048 rows.
-/
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_uniform_batch
public import proofs.«01_k».proof.Proof.Kernel.Launch
public import proofs.«01_k».proof.Proof.KernelIdeal.Launch
public import proofs.«01_k».proof.Proof.Match
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Every entry of `batch_list` is 2048, from the precondition. -/
theorem batch_eq [Cert.Pre_uniform_batch.Facts] (x : FVec Ideal Cert.Pre_uniform_batch.S32768x512 .f32) (b : IVec Cert.Pre_uniform_batch.S16 32)
    (w₁ w₂ w₃ : FVec Ideal Cert.Pre_uniform_batch.S512 .f32) (h : Cert.Pre_uniform_batch.fn (F := Ideal) x b w₁ w₂ w₃ = fun _ => 1#1) (i : Fin 16) :
    b (ValueIdx.ix1 i) = 2048#32 := by
  have e := congrFun h ValueIdx.ix0
  dsimp only [Cert.Pre_uniform_batch.fn] at e
  have : Subsingleton (Shape.Idx (⟨0, ![]⟩ : Shape)) := ⟨fun a b => funext fun q => q.elim0⟩
  have q := Host.reduce_andi_all _ _ _ _ _ e (ValueIdx.ix1 i)
  exact IntOp.cmpi_eq.1 q

/-- The program's run leaves its arguments as they were and every counter at zero. -/
theorem frame_p : Cert.quiescent_Kernel := fun m g _ =>
  (θ_run Cert.Kernel.defs _ _).mono (fun _ h => ⟨fun c => ⟨(h.1 c).1, (h.1 c).2.1, (h.1 c).2.2.1, (h.1 c).2.2.2.1, (h.1 c).2.2.2.2.1⟩, h.2⟩)
    (Cert.Proof.Kernel.run_main (F := Bits) m g)

/-- So does the program's run at the ideal values, -/
theorem frame_pi : Cert.quiescent_KernelIdeal := fun m g _ =>
  (θ_run Cert.KernelIdeal.defs _ _).mono (fun _ h => ⟨fun c => ⟨(h.1 c).1, (h.1 c).2.1, (h.1 c).2.2.1, (h.1 c).2.2.2.1, (h.1 c).2.2.2.2.1⟩, h.2⟩)
    (Cert.Proof.KernelIdeal.run_main (F := Ideal) m g)

/-- and the reference's. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The two programs' results are equal as extended reals when every segment has 2048 rows. -/
theorem algebraic : Cert.algebraic_KernelIdeal_ReferenceIdeal_pre_uniform_batch := by
  intro m g m' g' hpre hagree
  refine ⟨fun c => Cert.Proof.KernelIdeal.outOf (F := Ideal) (m (Cert.Proof.KernelIdeal.xLoc c)), ?_, ?_⟩
  · exact (θ_run Cert.KernelIdeal.defs _ _).mono
      (fun _ h c => ⟨(h.1 c).2.2.2.2.2, (h.1 c).1, (h.1 c).2.1, (h.1 c).2.2.1, (h.1 c).2.2.2.1, (h.1 c).2.2.2.2.1⟩)
      (Cert.Proof.KernelIdeal.run_main (F := Ideal) m g)
  · refine (θ_run Cert.ReferenceIdeal.defs _ _).mono (fun _ h c => ⟨(h c).1.trans ?_, (h c).2⟩) (Cert.ReferenceIdeal.Value.run (F := Ideal) m' g')
    have hu : Cert.Proof.Reference.Uniform (F := Ideal) (StableHlo.launchContents m' c) := fun i =>
      (congrFun (hagree c).2.1 (ValueIdx.ix1 i)).trans (batch_eq _ _ _ _ _ (hpre c) i)
    have hx : Cert.Proof.Reference.X (StableHlo.launchContents m' c) = m (Cert.Proof.KernelIdeal.xLoc c) := (hagree c).1
    funext z
    obtain ⟨p, y, rfl⟩ : ∃ (p : Fin 32768) (y : Fin 512), z = ValueIdx.ix2 p y := ⟨z 0, z 1, ValueIdx.eq_ix2 z⟩
    refine (Cert.Proof.Reference.result_at hu p y).trans ?_
    rw [hx]
    refine (Cert.Proof.Match.outOf_at _ p y _ fun c' => ?_).symm
    rw [← hx]
    exact Cert.Proof.Reference.maxima_le hu _ y c'

/-- The certificate. -/
theorem claim : Cert.Claim := ⟨Cert.Kernel.Gen.facts, Cert.KernelIdeal.Gen.facts, Cert.ReferenceIdeal.Gen.facts, Cert.Pre_uniform_batch.Gen.facts,
  frame_p, frame_pi, fun m g _ => frame_pi m g trivial, frame_ri, fun m g _ => frame_ri m g trivial, trivial, algebraic⟩

end Cert.Proof

end
